-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_distinct [hKernelIdeal : Cert.KernelIdeal.Facts] [hReferenceIdeal : Cert.ReferenceIdeal.Facts] [hOn_distinct : Cert.On_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![256, 2048]⟩ (Layout.meshBlock [2, 2, 2] ![[], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 8]⟩ : Shape).Idx, (Cert.On_distinct.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![256, 8]⟩ : Shape).Idx, (Cert.On_distinct.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_distinct : Cert.On_distinct.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_distinct (hKernelIdeal := hKernelIdeal) (hReferenceIdeal := hReferenceIdeal) (hOn_distinct := hOn_distinct)
-- ==== On_distinct.lean ====
abbrev S256x2048 : Shape := ⟨2, ![256, 2048]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩
abbrev S256x7 : Shape := ⟨2, ![256, 7]⟩
abbrev S256x1 : Shape := ⟨2, ![256, 1]⟩

class Facts : Prop where
  slices_S256x2048_S256x8_0_0 : S256x2048.Slices ![0, 0] S256x8
  bcast_S_S256x8 : S_.BroadcastsInDim S256x8 (![] : Fin 0 → Fin S256x8.rank)
  shapeCasts_S256x8_S256x8x1 : S256x8.ShapeCasts S256x8x1
  bcast_S_S256x8x1 : S_.BroadcastsInDim S256x8x1 (![] : Fin 0 → Fin S256x8x1.rank)
  bcast_S1_S1x1x1_2 : S1.BroadcastsInDim S1x1x1 (![2] : Fin 1 → Fin S1x1x1.rank)
  bcast_S1x1x1_S256x8x1_0_1_2 : S1x1x1.BroadcastsInDim S256x8x1 (![0, 1, 2] : Fin 3 → Fin S256x8x1.rank)
  reducesTo_S256x8x1_S256x8_d2 : S256x8x1.ReducesTo [2] S256x8
  h_S_ : 0 < S_.numel
  slices_S256x8_S256x7_0_1 : S256x8.Slices ![0, 1] S256x7
  slices_S256x8_S256x7_0_0 : S256x8.Slices ![0, 0] S256x7
  bcast_S_S256x1 : S_.BroadcastsInDim S256x1 (![] : Fin 0 → Fin S256x1.rank)
  slices_S256x7_S256x1_0_0 : S256x7.Slices ![0, 0] S256x1
  slices_S256x7_S256x1_0_1 : S256x7.Slices ![0, 1] S256x1
  slices_S256x7_S256x1_0_2 : S256x7.Slices ![0, 2] S256x1
  slices_S256x7_S256x1_0_3 : S256x7.Slices ![0, 3] S256x1
  slices_S256x7_S256x1_0_4 : S256x7.Slices ![0, 4] S256x1
  slices_S256x7_S256x1_0_5 : S256x7.Slices ![0, 5] S256x1
  slices_S256x7_S256x1_0_6 : S256x7.Slices ![0, 6] S256x1
  concatenates_S256x1_S256x1_S256x1_S256x1_S256x1_S256x1_S256x1_S256x1_S256x8_d1 : Shape.Concatenates [S256x1, S256x1, S256x1, S256x1, S256x1, S256x1, S256x1, S256x1] S256x8 1
  gather_S256x2048_S256x8x1_S256x8_n_1_0_0_1_2_11_wf : GatherDims.WF S256x2048 S256x8x1 S256x8 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S256x2048_S256x8x1_S256x8_n_1_0_0_1_2_11 : GatherDims S256x2048 S256x8x1 S256x8 where
  offsetDims := []
  collapsedSliceDims := [1]
  operandBatchingDims := [0]
  startIndicesBatchingDims := [0]
  startIndexMap := [1]
  indexVectorDim := 2
  sliceSizes := ![1, 1]
  wf := gather_S256x2048_S256x8x1_S256x8_n_1_0_0_1_2_11_wf

def fn_argsort {F : FTy → Type} [FloatOps F] (arg0 : FVec F S256x2048 .f32) : IVec S256x2048 32 :=
  let v0 : IVec S256x2048 32 := iotaInDim S256x2048 32 1
  let v1_0 : FVec F S256x2048 .f32 := (fun x y => (Host.sort2 S256x2048 1 comparator_f32_i32_d1 x y).1) arg0 v0
  let v1_1 : IVec S256x2048 32 := (fun x y => (Host.sort2 S256x2048 1 comparator_f32_i32_d1 x y).2) arg0 v0
  v1_1

def fn_take_along_axis {F : FTy → Type} [FloatOps F] (arg0 : FVec F S256x2048 .f32) (arg1 : IVec S256x8 32) : FVec F S256x8 .f32 :=
  let c : IVec S_ 32 := constantI S_ 32 0#32
  let v0 : IVec S256x8 32 := broadcastInDim S256x8 ![] bcast_S_S256x8 c
  let v1 : IVec S256x8 1 := cmpi .slt arg1 v0
  let c_0 : IVec S_ 32 := constantI S_ 32 2048#32
  let v2 : IVec S256x8 32 := broadcastInDim S256x8 ![] bcast_S_S256x8 c_0
  let v3 : IVec S256x8 32 := addi arg1 v2
  let v4 : IVec S256x8 32 := select v1 v3 arg1
  let v5 : IVec S256x8x1 32 := shapeCast S256x8x1 v4 shapeCasts_S256x8_S256x8x1
  let c_1 : IVec S1 32 := constantI S1 32 2047#32
  let c_2 : IVec S_ 32 := constantI S_ 32 0#32
  let v6 : IVec S256x8x1 32 := broadcastInDim S256x8x1 ![] bcast_S_S256x8x1 c_2
  let v7 : IVec S256x8x1 1 := cmpi .sge v5 v6
  let v8 : IVec S1x1x1 32 := broadcastInDim S1x1x1 ![2] bcast_S1_S1x1x1_2 c_1
  let v9 : IVec S256x8x1 32 := broadcastInDim S256x8x1 ![0, 1, 2] bcast_S1x1x1_S256x8x1_0_1_2 v8
  let v10 : IVec S256x8x1 1 := cmpi .sle v5 v9
  let v11 : IVec S256x8x1 1 := andi v7 v10
  let c_3 : IVec S_ 1 := constantI S_ 1 1#1
  let v12 : IVec S256x8 1 := (fun x v => Host.reduce IntOp.andi x v reducesTo_S256x8x1_S256x8_d2 h_S_) v11 c_3
  let v13 : FVec F S256x8 .f32 := (fun x i => Host.gather gather_S256x2048_S256x8x1_S256x8_n_1_0_0_1_2_11 x i) arg0 v5
  let cst : FVec F S_ .f32 := constant S_ .f32 0x7FC00000#32
  let v14 : FVec F S256x8 .f32 := broadcastInDim S256x8 ![] bcast_S_S256x8 cst
  let v15 : FVec F S256x8 .f32 := select v12 v13 v14
  v15

def fn_part1 {F : FTy → Type} [FloatOps F] (main_v3 : FVec F S256x8 .f32) (main_v22 : IVec S256x8 1) : IVec S256x8 1 :=
  let main_cst : FVec F S_ .f32 := constant S_ .f32 0xFF800000#32
  let main_v23 : FVec F S256x8 .f32 := broadcastInDim S256x8 ![] bcast_S_S256x8 main_cst
  let main_v24 : IVec S256x8 1 := cmpf .oeq main_v3 main_v23
  let main_v25 : IVec S256x8 1 := ori main_v22 main_v24
  main_v25

def fn {F : FTy → Type} [FloatOps F] (main_arg0 : FVec F S256x2048 .f32) : IVec S256x8 1 :=
  let main_v0 : FVec F S256x2048 .f32 := Host.negf main_arg0
  let main_v1 : IVec S256x2048 32 := fn_argsort (F := F) main_v0
  let main_v2 : IVec S256x8 32 := (extractStridedSlice S256x8 ![0, 0] · slices_S256x2048_S256x8_0_0) main_v1
  let main_v3 : FVec F S256x8 .f32 := fn_take_along_axis (F := F) main_arg0 main_v2
  let main_v4 : FVec F S256x7 .f32 := (extractStridedSlice S256x7 ![0, 1] · slices_S256x8_S256x7_0_1) main_v3
  let main_v5 : FVec F S256x7 .f32 := (extractStridedSlice S256x7 ![0, 0] · slices_S256x8_S256x7_0_0) main_v3
  let main_v6 : IVec S256x7 1 := cmpf .olt main_v4 main_v5
  let main_c : IVec S_ 1 := constantI S_ 1 1#1
  let main_v7 : IVec S256x1 1 := broadcastInDim S256x1 ![] bcast_S_S256x1 main_c
  let main_v8 : IVec S256x1 1 := (extractStridedSlice S256x1 ![0, 0] · slices_S256x7_S256x1_0_0) main_v6
  let main_v9 : IVec S256x1 1 := andi main_v7 main_v8
  let main_v10 : IVec S256x1 1 := (extractStridedSlice S256x1 ![0, 1] · slices_S256x7_S256x1_0_1) main_v6
  let main_v11 : IVec S256x1 1 := andi main_v9 main_v10
  let main_v12 : IVec S256x1 1 := (extractStridedSlice S256x1 ![0, 2] · slices_S256x7_S256x1_0_2) main_v6
  let main_v13 : IVec S256x1 1 := andi main_v11 main_v12
  let main_v14 : IVec S256x1 1 := (extractStridedSlice S256x1 ![0, 3] · slices_S256x7_S256x1_0_3) main_v6
  let main_v15 : IVec S256x1 1 := andi main_v13 main_v14
  let main_v16 : IVec S256x1 1 := (extractStridedSlice S256x1 ![0, 4] · slices_S256x7_S256x1_0_4) main_v6
  let main_v17 : IVec S256x1 1 := andi main_v15 main_v16
  let main_v18 : IVec S256x1 1 := (extractStridedSlice S256x1 ![0, 5] · slices_S256x7_S256x1_0_5) main_v6
  let main_v19 : IVec S256x1 1 := andi main_v17 main_v18
  let main_v20 : IVec S256x1 1 := (extractStridedSlice S256x1 ![0, 6] · slices_S256x7_S256x1_0_6) main_v6
  let main_v21 : IVec S256x1 1 := andi main_v19 main_v20
  let main_v22 : IVec S256x8 1 := concatenate S256x8 1 [⟨S256x1, main_v7⟩, ⟨S256x1, main_v9⟩, ⟨S256x1, main_v11⟩, ⟨S256x1, main_v13⟩, ⟨S256x1, main_v15⟩, ⟨S256x1, main_v17⟩, ⟨S256x1, main_v19⟩, ⟨S256x1, main_v21⟩] concatenates_S256x1_S256x1_S256x1_S256x1_S256x1_S256x1_S256x1_S256x1_S256x8_d1
  fn_part1 (F := F) main_v3 main_v22
-- ==== Kernel.lean ====
abbrev S256x1024 : Shape := ⟨2, ![256, 1024]⟩
abbrev S256x8 : Shape := ⟨2, ![256, 8]⟩
abbrev S8x256x8 : Shape := ⟨3, ![8, 256, 8]⟩
abbrev S8 : Shape := ⟨1, ![8]⟩
abbrev S_ : Shape := ⟨0, ![]⟩
abbrev S256x256 : Shape := ⟨2, ![256, 256]⟩
abbrev S256 : Shape := ⟨1, ![256]⟩
abbrev S256x1 : Shape := ⟨2, ![256, 1]⟩
abbrev S1x256x8 : Shape := ⟨3, ![1, 256, 8]⟩
abbrev S1 : Shape := ⟨1, ![1]⟩
abbrev S256x64 : Shape := ⟨2, ![256, 64]⟩

abbrev nBuf : Space → Nat
  | .hbm => 2
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x8, .f32⟩
  | .local _ .vmem, ⟨0, _⟩ => ⟨S256x1024, .f32⟩
  | .local _ .vmem, ⟨1, _⟩ => ⟨S256x8, .f32⟩
  | .local _ .vmem, ⟨2, _⟩ => ⟨S8x256x8, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let v14 : BitVec 1 := Scalar.cmpi .ne v12 c0_i32
  let v15 : BitVec 32 := Scalar.extui v14
  let c0_i32_5 : BitVec 32 := 0#32
  let v16 : BitVec 1 := Scalar.cmpi .ne v15 c0_i32_5
  v16

def k0_dev1 : Nat :=
  let c0_i32_169 : BitVec 32 := 0#32
  let c0_i32_165 : BitVec 32 := 0#32
  let c4_i32_168 : BitVec 32 := 4#32
  let v228 : BitVec 32 := Scalar.muli c0_i32_165 c4_i32_168
  let v229 : BitVec 32 := Scalar.addi c0_i32_169 v228
  let c0_i32_166 : BitVec 32 := 0#32
  let c2_i32_170 : BitVec 32 := 2#32
  let v230 : BitVec 32 := Scalar.muli c0_i32_166 c2_i32_170
  let v231 : BitVec 32 := Scalar.addi v229 v230
  let c0_i32_167 : BitVec 32 := 0#32
  let c1_i32_171 : BitVec 32 := 1#32
  let v232 : BitVec 32 := Scalar.muli c0_i32_167 c1_i32_171
  let v233 : BitVec 32 := Scalar.addi v231 v232
  v233.toNat
def k0_cond2 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c1_i32_6 : BitVec 32 := 1#32
  let v17 : BitVec 1 := Scalar.cmpi .ne v12 c1_i32_6
  let v18 : BitVec 32 := Scalar.extui v17
  let c0_i32_7 : BitVec 32 := 0#32
  let v19 : BitVec 1 := Scalar.cmpi .ne v18 c0_i32_7
  v19

def k0_dev2 : Nat :=
  let c0_i32_169 : BitVec 32 := 0#32
  let c0_i32_165 : BitVec 32 := 0#32
  let c4_i32_168 : BitVec 32 := 4#32
  let v228 : BitVec 32 := Scalar.muli c0_i32_165 c4_i32_168
  let v229 : BitVec 32 := Scalar.addi c0_i32_169 v228
  let c0_i32_166 : BitVec 32 := 0#32
  let c2_i32_170 : BitVec 32 := 2#32
  let v230 : BitVec 32 := Scalar.muli c0_i32_166 c2_i32_170
  let v231 : BitVec 32 := Scalar.addi v229 v230
  let c1_i32_167 : BitVec 32 := 1#32
  let c1_i32_171 : BitVec 32 := 1#32
  let v232 : BitVec 32 := Scalar.muli c1_i32_167 c1_i32_171
  let v233 : BitVec 32 := Scalar.addi v231 v232
  v233.toNat
def k0_cond3 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c2_i32_8 : BitVec 32 := 2#32
  let v20 : BitVec 1 := Scalar.cmpi .ne v12 c2_i32_8
  let v21 : BitVec 32 := Scalar.extui v20
  let c0_i32_9 : BitVec 32 := 0#32
  let v22 : BitVec 1 := Scalar.cmpi .ne v21 c0_i32_9
  v22

def k0_dev3 : Nat :=
  let c0_i32_169 : BitVec 32 := 0#32
  let c0_i32_165 : BitVec 32 := 0#32
  let c4_i32_168 : BitVec 32 := 4#32
  let v228 : BitVec 32 := Scalar.muli c0_i32_165 c4_i32_168
  let v229 : BitVec 32 := Scalar.addi c0_i32_169 v228
  let c1_i32_166 : BitVec 32 := 1#32
  let c2_i32_170 : BitVec 32 := 2#32
  let v230 : BitVec 32 := Scalar.muli c1_i32_166 c2_i32_170
  let v231 : BitVec 32 := Scalar.addi v229 v230
  let c0_i32_167 : BitVec 32 := 0#32
  let c1_i32_171 : BitVec 32 := 1#32
  let v232 : BitVec 32 := Scalar.muli c0_i32_167 c1_i32_171
  let v233 : BitVec 32 := Scalar.addi v231 v232
  v233.toNat
def k0_cond4 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c3_i32 : BitVec 32 := 3#32
  let v23 : BitVec 1 := Scalar.cmpi .ne v12 c3_i32
  let v24 : BitVec 32 := Scalar.extui v23
  let c0_i32_10 : BitVec 32 := 0#32
  let v25 : BitVec 1 := Scalar.cmpi .ne v24 c0_i32_10
  v25

def k0_dev4 : Nat :=
  let c0_i32_169 : BitVec 32 := 0#32
  let c0_i32_165 : BitVec 32 := 0#32
  let c4_i32_168 : BitVec 32 := 4#32
  let v228 : BitVec 32 := Scalar.muli c0_i32_165 c4_i32_168
  let v229 : BitVec 32 := Scalar.addi c0_i32_169 v228
  let c1_i32_166 : BitVec 32 := 1#32
  let c2_i32_170 : BitVec 32 := 2#32
  let v230 : BitVec 32 := Scalar.muli c1_i32_166 c2_i32_170
  let v231 : BitVec 32 := Scalar.addi v229 v230
  let c1_i32_167 : BitVec 32 := 1#32
  let c1_i32_171 : BitVec 32 := 1#32
  let v232 : BitVec 32 := Scalar.muli c1_i32_167 c1_i32_171
  let v233 : BitVec 32 := Scalar.addi v231 v232
  v233.toNat
def k0_cond5 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c4_i32_11 : BitVec 32 := 4#32
  let v26 : BitVec 1 := Scalar.cmpi .ne v12 c4_i32_11
  let v27 : BitVec 32 := Scalar.extui v26
  let c0_i32_12 : BitVec 32 := 0#32
  let v28 : BitVec 1 := Scalar.cmpi .ne v27 c0_i32_12
  v28

def k0_dev5 : Nat :=
  let c0_i32_169 : BitVec 32 := 0#32
  let c1_i32_165 : BitVec 32 := 1#32
  let c4_i32_168 : BitVec 32 := 4#32
  let v228 : BitVec 32 := Scalar.muli c1_i32_165 c4_i32_168
  let v229 : BitVec 32 := Scalar.addi c0_i32_169 v228
  let c0_i32_166 : BitVec 32 := 0#32
  let c2_i32_170 : BitVec 32 := 2#32
  let v230 : BitVec 32 := Scalar.muli c0_i32_166 c2_i32_170
  let v231 : BitVec 32 := Scalar.addi v229 v230
  let c0_i32_167 : BitVec 32 := 0#32
  let c1_i32_171 : BitVec 32 := 1#32
  let v232 : BitVec 32 := Scalar.muli c0_i32_167 c1_i32_171
  let v233 : BitVec 32 := Scalar.addi v231 v232
  v233.toNat
def k0_cond6 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c5_i32 : BitVec 32 := 5#32
  let v29 : BitVec 1 := Scalar.cmpi .ne v12 c5_i32
  let v30 : BitVec 32 := Scalar.extui v29
  let c0_i32_13 : BitVec 32 := 0#32
  let v31 : BitVec 1 := Scalar.cmpi .ne v30 c0_i32_13
  v31

def k0_dev6 : Nat :=
  let c0_i32_169 : BitVec 32 := 0#32
  let c1_i32_165 : BitVec 32 := 1#32
  let c4_i32_168 : BitVec 32 := 4#32
  let v228 : BitVec 32 := Scalar.muli c1_i32_165 c4_i32_168
  let v229 : BitVec 32 := Scalar.addi c0_i32_169 v228
  let c0_i32_166 : BitVec 32 := 0#32
  let c2_i32_170 : BitVec 32 := 2#32
  let v230 : BitVec 32 := Scalar.muli c0_i32_166 c2_i32_170
  let v231 : BitVec 32 := Scalar.addi v229 v230
  let c1_i32_167 : BitVec 32 := 1#32
  let c1_i32_171 : BitVec 32 := 1#32
  let v232 : BitVec 32 := Scalar.muli c1_i32_167 c1_i32_171
  let v233 : BitVec 32 := Scalar.addi v231 v232
  v233.toNat
def k0_cond7 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c6_i32 : BitVec 32 := 6#32
  let v32 : BitVec 1 := Scalar.cmpi .ne v12 c6_i32
  let v33 : BitVec 32 := Scalar.extui v32
  let c0_i32_14 : BitVec 32 := 0#32
  let v34 : BitVec 1 := Scalar.cmpi .ne v33 c0_i32_14
  v34

def k0_dev7 : Nat :=
  let c0_i32_169 : BitVec 32 := 0#32
  let c1_i32_165 : BitVec 32 := 1#32
  let c4_i32_168 : BitVec 32 := 4#32
  let v228 : BitVec 32 := Scalar.muli c1_i32_165 c4_i32_168
  let v229 : BitVec 32 := Scalar.addi c0_i32_169 v228
  let c1_i32_166 : BitVec 32 := 1#32
  let c2_i32_170 : BitVec 32 := 2#32
  let v230 : BitVec 32 := Scalar.muli c1_i32_166 c2_i32_170
  let v231 : BitVec 32 := Scalar.addi v229 v230
  let c0_i32_167 : BitVec 32 := 0#32
  let c1_i32_171 : BitVec 32 := 1#32
  let v232 : BitVec 32 := Scalar.muli c0_i32_167 c1_i32_171
  let v233 : BitVec 32 := Scalar.addi v231 v232
  v233.toNat
def k0_cond8 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c7_i32 : BitVec 32 := 7#32
  let v35 : BitVec 1 := Scalar.cmpi .ne v12 c7_i32
  let v36 : BitVec 32 := Scalar.extui v35
  let c0_i32_15 : BitVec 32 := 0#32
  let v37 : BitVec 1 := Scalar.cmpi .ne v36 c0_i32_15
  v37

def k0_dev8 : Nat :=
  let c0_i32_169 : BitVec 32 := 0#32
  let c1_i32_165 : BitVec 32 := 1#32
  let c4_i32_168 : BitVec 32 := 4#32
  let v228 : BitVec 32 := Scalar.muli c1_i32_165 c4_i32_168
  let v229 : BitVec 32 := Scalar.addi c0_i32_169 v228
  let c1_i32_166 : BitVec 32 := 1#32
  let c2_i32_170 : BitVec 32 := 2#32
  let v230 : BitVec 32 := Scalar.muli c1_i32_166 c2_i32_170
  let v231 : BitVec 32 := Scalar.addi v229 v230
  let c1_i32_167 : BitVec 32 := 1#32
  let c1_i32_171 : BitVec 32 := 1#32
  let v232 : BitVec 32 := Scalar.muli c1_i32_167 c1_i32_171
  let v233 : BitVec 32 := Scalar.addi v231 v232
  v233.toNat
def k0_off1 (d0 : Dev nD) : Fin 2 → Nat :=
  let c0 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_16 : BitVec 32 := 2#32
  let v38 : BitVec 32 := Scalar.muli v2 c2_i32_16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v38 v8
  let c256_i32 : BitVec 32 := 256#32
  let v40 : BitVec 32 := Scalar.muli v39 c256_i32
  let v41 : Index := Scalar.indexCast v40
  ![0, v41.toNat]
def k0_off2 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let v89 : Index := Scalar.indexCast v12
  let c0_31 : Index := 0#32
  let c0_32 : Index := 0#32
  ![v89.toNat, 0, 0]
def k0_cond9 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_34 : BitVec 32 := 0#32
  let v93 : BitVec 1 := Scalar.cmpi .ne v12 c0_i32_34
  let v94 : BitVec 32 := Scalar.extui v93
  let c0_i32_36 : BitVec 32 := 0#32
  let v95 : BitVec 1 := Scalar.cmpi .ne v94 c0_i32_36
  v95

def k0_off3 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  ![v12.toNat]
def k0_off4 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_171 : BitVec 32 := 0#32
  let c0_i32_172 : BitVec 32 := 0#32
  ![v12.toNat, 0, 0]
def k0_dev9 : Nat :=
  let c0_i32_168 : BitVec 32 := 0#32
  let c0_i32_164 : BitVec 32 := 0#32
  let c4_i32_167 : BitVec 32 := 4#32
  let v228 : BitVec 32 := Scalar.muli c0_i32_164 c4_i32_167
  let v229 : BitVec 32 := Scalar.addi c0_i32_168 v228
  let c0_i32_165 : BitVec 32 := 0#32
  let c2_i32_169 : BitVec 32 := 2#32
  let v230 : BitVec 32 := Scalar.muli c0_i32_165 c2_i32_169
  let v231 : BitVec 32 := Scalar.addi v229 v230
  let c0_i32_166 : BitVec 32 := 0#32
  let c1_i32_170 : BitVec 32 := 1#32
  let v232 : BitVec 32 := Scalar.muli c0_i32_166 c1_i32_170
  let v233 : BitVec 32 := Scalar.addi v231 v232
  v233.toNat
def k0_cond10 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c1_i32_37 : BitVec 32 := 1#32
  let v96 : BitVec 1 := Scalar.cmpi .ne v12 c1_i32_37
  let v97 : BitVec 32 := Scalar.extui v96
  let c0_i32_39 : BitVec 32 := 0#32
  let v98 : BitVec 1 := Scalar.cmpi .ne v97 c0_i32_39
  v98

def k0_off5 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  ![v12.toNat]
def k0_off6 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_171 : BitVec 32 := 0#32
  let c0_i32_172 : BitVec 32 := 0#32
  ![v12.toNat, 0, 0]
def k0_dev10 : Nat :=
  let c0_i32_168 : BitVec 32 := 0#32
  let c0_i32_164 : BitVec 32 := 0#32
  let c4_i32_167 : BitVec 32 := 4#32
  let v228 : BitVec 32 := Scalar.muli c0_i32_164 c4_i32_167
  let v229 : BitVec 32 := Scalar.addi c0_i32_168 v228
  let c0_i32_165 : BitVec 32 := 0#32
  let c2_i32_169 : BitVec 32 := 2#32
  let v230 : BitVec 32 := Scalar.muli c0_i32_165 c2_i32_169
  let v231 : BitVec 32 := Scalar.addi v229 v230
  let c1_i32_166 : BitVec 32 := 1#32
  let c1_i32_170 : BitVec 32 := 1#32
  let v232 : BitVec 32 := Scalar.muli c1_i32_166 c1_i32_170
  let v233 : BitVec 32 := Scalar.addi v231 v232
  v233.toNat
def k0_cond11 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c2_i32_40 : BitVec 32 := 2#32
  let v99 : BitVec 1 := Scalar.cmpi .ne v12 c2_i32_40
  let v100 : BitVec 32 := Scalar.extui v99
  let c0_i32_42 : BitVec 32 := 0#32
  let v101 : BitVec 1 := Scalar.cmpi .ne v100 c0_i32_42
  v101

def k0_off7 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  ![v12.toNat]
def k0_off8 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_171 : BitVec 32 := 0#32
  let c0_i32_172 : BitVec 32 := 0#32
  ![v12.toNat, 0, 0]
def k0_dev11 : Nat :=
  let c0_i32_168 : BitVec 32 := 0#32
  let c0_i32_164 : BitVec 32 := 0#32
  let c4_i32_167 : BitVec 32 := 4#32
  let v228 : BitVec 32 := Scalar.muli c0_i32_164 c4_i32_167
  let v229 : BitVec 32 := Scalar.addi c0_i32_168 v228
  let c1_i32_165 : BitVec 32 := 1#32
  let c2_i32_169 : BitVec 32 := 2#32
  let v230 : BitVec 32 := Scalar.muli c1_i32_165 c2_i32_169
  let v231 : BitVec 32 := Scalar.addi v229 v230
  let c0_i32_166 : BitVec 32 := 0#32
  let c1_i32_170 : BitVec 32 := 1#32
  let v232 : BitVec 32 := Scalar.muli c0_i32_166 c1_i32_170
  let v233 : BitVec 32 := Scalar.addi v231 v232
  v233.toNat
def k0_cond12 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c3_i32_43 : BitVec 32 := 3#32
  let v102 : BitVec 1 := Scalar.cmpi .ne v12 c3_i32_43
  let v103 : BitVec 32 := Scalar.extui v102
  let c0_i32_45 : BitVec 32 := 0#32
  let v104 : BitVec 1 := Scalar.cmpi .ne v103 c0_i32_45
  v104

def k0_off9 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  ![v12.toNat]
def k0_off10 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_171 : BitVec 32 := 0#32
  let c0_i32_172 : BitVec 32 := 0#32
  ![v12.toNat, 0, 0]
def k0_dev12 : Nat :=
  let c0_i32_168 : BitVec 32 := 0#32
  let c0_i32_164 : BitVec 32 := 0#32
  let c4_i32_167 : BitVec 32 := 4#32
  let v228 : BitVec 32 := Scalar.muli c0_i32_164 c4_i32_167
  let v229 : BitVec 32 := Scalar.addi c0_i32_168 v228
  let c1_i32_165 : BitVec 32 := 1#32
  let c2_i32_169 : BitVec 32 := 2#32
  let v230 : BitVec 32 := Scalar.muli c1_i32_165 c2_i32_169
  let v231 : BitVec 32 := Scalar.addi v229 v230
  let c1_i32_166 : BitVec 32 := 1#32
  let c1_i32_170 : BitVec 32 := 1#32
  let v232 : BitVec 32 := Scalar.muli c1_i32_166 c1_i32_170
  let v233 : BitVec 32 := Scalar.addi v231 v232
  v233.toNat
def k0_cond13 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c4_i32_46 : BitVec 32 := 4#32
  let v105 : BitVec 1 := Scalar.cmpi .ne v12 c4_i32_46
  let v106 : BitVec 32 := Scalar.extui v105
  let c0_i32_48 : BitVec 32 := 0#32
  let v107 : BitVec 1 := Scalar.cmpi .ne v106 c0_i32_48
  v107

def k0_off11 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  ![v12.toNat]
def k0_off12 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_171 : BitVec 32 := 0#32
  let c0_i32_172 : BitVec 32 := 0#32
  ![v12.toNat, 0, 0]
def k0_dev13 : Nat :=
  let c0_i32_168 : BitVec 32 := 0#32
  let c1_i32_164 : BitVec 32 := 1#32
  let c4_i32_167 : BitVec 32 := 4#32
  let v228 : BitVec 32 := Scalar.muli c1_i32_164 c4_i32_167
  let v229 : BitVec 32 := Scalar.addi c0_i32_168 v228
  let c0_i32_165 : BitVec 32 := 0#32
  let c2_i32_169 : BitVec 32 := 2#32
  let v230 : BitVec 32 := Scalar.muli c0_i32_165 c2_i32_169
  let v231 : BitVec 32 := Scalar.addi v229 v230
  let c0_i32_166 : BitVec 32 := 0#32
  let c1_i32_170 : BitVec 32 := 1#32
  let v232 : BitVec 32 := Scalar.muli c0_i32_166 c1_i32_170
  let v233 : BitVec 32 := Scalar.addi v231 v232
  v233.toNat
def k0_cond14 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c5_i32_49 : BitVec 32 := 5#32
  let v108 : BitVec 1 := Scalar.cmpi .ne v12 c5_i32_49
  let v109 : BitVec 32 := Scalar.extui v108
  let c0_i32_51 : BitVec 32 := 0#32
  let v110 : BitVec 1 := Scalar.cmpi .ne v109 c0_i32_51
  v110

def k0_off13 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  ![v12.toNat]
def k0_off14 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_171 : BitVec 32 := 0#32
  let c0_i32_172 : BitVec 32 := 0#32
  ![v12.toNat, 0, 0]
def k0_dev14 : Nat :=
  let c0_i32_168 : BitVec 32 := 0#32
  let c1_i32_164 : BitVec 32 := 1#32
  let c4_i32_167 : BitVec 32 := 4#32
  let v228 : BitVec 32 := Scalar.muli c1_i32_164 c4_i32_167
  let v229 : BitVec 32 := Scalar.addi c0_i32_168 v228
  let c0_i32_165 : BitVec 32 := 0#32
  let c2_i32_169 : BitVec 32 := 2#32
  let v230 : BitVec 32 := Scalar.muli c0_i32_165 c2_i32_169
  let v231 : BitVec 32 := Scalar.addi v229 v230
  let c1_i32_166 : BitVec 32 := 1#32
  let c1_i32_170 : BitVec 32 := 1#32
  let v232 : BitVec 32 := Scalar.muli c1_i32_166 c1_i32_170
  let v233 : BitVec 32 := Scalar.addi v231 v232
  v233.toNat
def k0_cond15 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c6_i32_52 : BitVec 32 := 6#32
  let v111 : BitVec 1 := Scalar.cmpi .ne v12 c6_i32_52
  let v112 : BitVec 32 := Scalar.extui v111
  let c0_i32_54 : BitVec 32 := 0#32
  let v113 : BitVec 1 := Scalar.cmpi .ne v112 c0_i32_54
  v113

def k0_off15 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  ![v12.toNat]
def k0_off16 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_171 : BitVec 32 := 0#32
  let c0_i32_172 : BitVec 32 := 0#32
  ![v12.toNat, 0, 0]
def k0_dev15 : Nat :=
  let c0_i32_168 : BitVec 32 := 0#32
  let c1_i32_164 : BitVec 32 := 1#32
  let c4_i32_167 : BitVec 32 := 4#32
  let v228 : BitVec 32 := Scalar.muli c1_i32_164 c4_i32_167
  let v229 : BitVec 32 := Scalar.addi c0_i32_168 v228
  let c1_i32_165 : BitVec 32 := 1#32
  let c2_i32_169 : BitVec 32 := 2#32
  let v230 : BitVec 32 := Scalar.muli c1_i32_165 c2_i32_169
  let v231 : BitVec 32 := Scalar.addi v229 v230
  let c0_i32_166 : BitVec 32 := 0#32
  let c1_i32_170 : BitVec 32 := 1#32
  let v232 : BitVec 32 := Scalar.muli c0_i32_166 c1_i32_170
  let v233 : BitVec 32 := Scalar.addi v231 v232
  v233.toNat
def k0_cond16 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c7_i32_55 : BitVec 32 := 7#32
  let v114 : BitVec 1 := Scalar.cmpi .ne v12 c7_i32_55
  let v115 : BitVec 32 := Scalar.extui v114
  let c0_i32_57 : BitVec 32 := 0#32
  let v116 : BitVec 1 := Scalar.cmpi .ne v115 c0_i32_57
  v116

def k0_off17 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  ![v12.toNat]
def k0_off18 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_171 : BitVec 32 := 0#32
  let c0_i32_172 : BitVec 32 := 0#32
  ![v12.toNat, 0, 0]
def k0_dev16 : Nat :=
  let c0_i32_168 : BitVec 32 := 0#32
  let c1_i32_164 : BitVec 32 := 1#32
  let c4_i32_167 : BitVec 32 := 4#32
  let v228 : BitVec 32 := Scalar.muli c1_i32_164 c4_i32_167
  let v229 : BitVec 32 := Scalar.addi c0_i32_168 v228
  let c1_i32_165 : BitVec 32 := 1#32
  let c2_i32_169 : BitVec 32 := 2#32
  let v230 : BitVec 32 := Scalar.muli c1_i32_165 c2_i32_169
  let v231 : BitVec 32 := Scalar.addi v229 v230
  let c1_i32_166 : BitVec 32 := 1#32
  let c1_i32_170 : BitVec 32 := 1#32
  let v232 : BitVec 32 := Scalar.muli c1_i32_166 c1_i32_170
  let v233 : BitVec 32 := Scalar.addi v231 v232
  v233.toNat
def k0_cond25 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_106 : BitVec 32 := 0#32
  let v141 : BitVec 1 := Scalar.cmpi .ne v12 c0_i32_106
  let v142 : BitVec 32 := Scalar.extui v141
  let c0_i32_108 : BitVec 32 := 0#32
  let v143 : BitVec 1 := Scalar.cmpi .ne v142 c0_i32_108
  v143

def k0_off19 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_168 : BitVec 32 := 0#32
  let c0_i32_169 : BitVec 32 := 0#32
  ![v12.toNat, 0, 0]
def k0_cond26 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c1_i32_109 : BitVec 32 := 1#32
  let v144 : BitVec 1 := Scalar.cmpi .ne v12 c1_i32_109
  let v145 : BitVec 32 := Scalar.extui v144
  let c0_i32_111 : BitVec 32 := 0#32
  let v146 : BitVec 1 := Scalar.cmpi .ne v145 c0_i32_111
  v146

def k0_off20 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_168 : BitVec 32 := 0#32
  let c0_i32_169 : BitVec 32 := 0#32
  ![v12.toNat, 0, 0]
def k0_cond27 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c2_i32_112 : BitVec 32 := 2#32
  let v147 : BitVec 1 := Scalar.cmpi .ne v12 c2_i32_112
  let v148 : BitVec 32 := Scalar.extui v147
  let c0_i32_114 : BitVec 32 := 0#32
  let v149 : BitVec 1 := Scalar.cmpi .ne v148 c0_i32_114
  v149

def k0_off21 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_168 : BitVec 32 := 0#32
  let c0_i32_169 : BitVec 32 := 0#32
  ![v12.toNat, 0, 0]
def k0_cond28 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c3_i32_115 : BitVec 32 := 3#32
  let v150 : BitVec 1 := Scalar.cmpi .ne v12 c3_i32_115
  let v151 : BitVec 32 := Scalar.extui v150
  let c0_i32_117 : BitVec 32 := 0#32
  let v152 : BitVec 1 := Scalar.cmpi .ne v151 c0_i32_117
  v152

def k0_off22 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_168 : BitVec 32 := 0#32
  let c0_i32_169 : BitVec 32 := 0#32
  ![v12.toNat, 0, 0]
def k0_cond29 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c4_i32_118 : BitVec 32 := 4#32
  let v153 : BitVec 1 := Scalar.cmpi .ne v12 c4_i32_118
  let v154 : BitVec 32 := Scalar.extui v153
  let c0_i32_120 : BitVec 32 := 0#32
  let v155 : BitVec 1 := Scalar.cmpi .ne v154 c0_i32_120
  v155

def k0_off23 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_168 : BitVec 32 := 0#32
  let c0_i32_169 : BitVec 32 := 0#32
  ![v12.toNat, 0, 0]
def k0_cond30 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c5_i32_121 : BitVec 32 := 5#32
  let v156 : BitVec 1 := Scalar.cmpi .ne v12 c5_i32_121
  let v157 : BitVec 32 := Scalar.extui v156
  let c0_i32_123 : BitVec 32 := 0#32
  let v158 : BitVec 1 := Scalar.cmpi .ne v157 c0_i32_123
  v158

def k0_off24 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_168 : BitVec 32 := 0#32
  let c0_i32_169 : BitVec 32 := 0#32
  ![v12.toNat, 0, 0]
def k0_cond31 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c6_i32_124 : BitVec 32 := 6#32
  let v159 : BitVec 1 := Scalar.cmpi .ne v12 c6_i32_124
  let v160 : BitVec 32 := Scalar.extui v159
  let c0_i32_126 : BitVec 32 := 0#32
  let v161 : BitVec 1 := Scalar.cmpi .ne v160 c0_i32_126
  v161

def k0_off25 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_168 : BitVec 32 := 0#32
  let c0_i32_169 : BitVec 32 := 0#32
  ![v12.toNat, 0, 0]
def k0_cond32 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c7_i32_127 : BitVec 32 := 7#32
  let v162 : BitVec 1 := Scalar.cmpi .ne v12 c7_i32_127
  let v163 : BitVec 32 := Scalar.extui v162
  let c0_i32_129 : BitVec 32 := 0#32
  let v164 : BitVec 1 := Scalar.cmpi .ne v163 c0_i32_129
  v164

def k0_off26 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_168 : BitVec 32 := 0#32
  let c0_i32_169 : BitVec 32 := 0#32
  ![v12.toNat, 0, 0]
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x2048 : Shape := ⟨2, ![256, 2048]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .i32⟩
  | .hbm, ⟨3, _⟩ => ⟨S256x2048, .f32⟩
  | .hbm, ⟨4, _⟩ => ⟨S256x2048, .i32⟩
  | .hbm, ⟨5, _⟩ => ⟨S256x8, .i32⟩
  | .hbm, ⟨6, _⟩ => ⟨S_, .i32⟩
  | .hbm, ⟨7, _⟩ => ⟨S256x8, .i32⟩
  | .hbm, ⟨8, _⟩ => ⟨S256x8, .i1⟩
  | .hbm, ⟨9, _⟩ => ⟨S_, .i32⟩
  | .hbm, ⟨10, _⟩ => ⟨S256x8, .i32⟩
  | .hbm, ⟨11, _⟩ => ⟨S256x8, .i32⟩
  | .hbm, ⟨12, _⟩ => ⟨S256x8, .i32⟩
  | .hbm, ⟨13, _⟩ => ⟨S256x8x1, .i32⟩
  | .hbm, ⟨14, _⟩ => ⟨S1, .i32⟩
  | .hbm, ⟨15, _⟩ => ⟨S_, .i32⟩
  | .hbm, ⟨16, _⟩ => ⟨S256x8x1, .i32⟩
  | .hbm, ⟨17, _⟩ => ⟨S256x8x1, .i1⟩
  | .hbm, ⟨18, _⟩ => ⟨S1x1x1, .i32⟩
  | .hbm, ⟨19, _⟩ => ⟨S256x8x1, .i32⟩
  | .hbm, ⟨20, _⟩ => ⟨S256x8x1, .i1⟩
  | .hbm, ⟨21, _⟩ => ⟨S256x8x1, .i1⟩
  | .hbm, ⟨22, _⟩ => ⟨S_, .i1⟩
  | .hbm, ⟨23, _⟩ => ⟨S256x8, .i1⟩
  | .hbm, ⟨24, _⟩ => ⟨S256x8, .f32⟩
  | .hbm, ⟨25, _⟩ => ⟨S_, .f32⟩
  | .hbm, ⟨26, _⟩ => ⟨S256x8, .f32⟩
  | .hbm, ⟨27, _⟩ => ⟨S256x8, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Proto.lean ====
/-
# The exchange protocol of the top-8 gather

Eight devices, each with a gather buffer of eight slots. Device `c` computes the eight largest values of every row of its
own chunk, stores them into slot `c` of its own buffer and copies that slot into slot `c` of every peer's buffer.

* Barrier counter of device `c`: every peer `d` adds one; with it `d` hands over slot `c` of `d`'s buffer, which `c` will
  write. `c` waits for all seven.
* Receive counter `p` of device `c` (`p ≠ c`): the copy from `p` completes on it; with it comes slot `p` of `c`'s buffer
  holding what `p` computed.
* Send counter `p` of device `c` (`p ≠ c`): `c`'s copy to `p` completes on it; with it comes back the share of slot `c`
  which that copy was reading.

All eight slots of all buffers end at ONE valuation, `landed`: slot `d` holds what device `d` computed.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Rounds
public import Idealize.ShloMosaic.Lib.Tactic

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline library's copy, and the exchange's with duties named by devices -/

/-- The ghost state of the exchange. -/
abbrev UX : Type := URounds (GSem nD τ sig) (Dev nD)
/-- The ghost state of the whole run. -/
abbrev UU : Type := UR sig nD τ × UX

local notation "𝕄" => MT nD τ sig Unit (Elt F) ℕ UU ℕ

/-- The pipeline's part of it. -/
abbrev EP : Emb (UR sig nD τ) (MT nD τ sig Unit (Elt F) ℕ UU ℕ) := embL
/-- The exchange's part of it. -/
abbrev ER : Emb UX (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## Buffers and counters -/

/-- The staged input block, whole. -/
abbrev xM : Memref sig .tc .vmem S256x1024 .f32 := Memref.whole cc0_stg0_0
/-- The staged result, whole. -/
abbrev oM : Memref sig .tc .vmem S256x8 .f32 := Memref.whole cc0_stg1_0
/-- The gather buffer, whole. -/
abbrev gM : Memref sig .tc .vmem S8x256x8 .f32 := Memref.whole cc0_scratch0

/-- Every slot lies inside the gather buffer. -/
theorem slot_inb (d : Dev nD) : ∀ a, (![d.val, 0, 0] : Fin 3 → ℕ) a + S1x256x8.size a ≤ S8x256x8.size a := by
  revert d; decide

/-- The rectangle of slot `d` of a gather buffer. -/
abbrev slotR (d : Dev nD) : Rect S8x256x8 := Rect.unit (s := S8x256x8) ![d.val, 0, 0] S1x256x8.size (slot_inb d)

/-- Slot `d` of a gather buffer, as the copies name it. -/
abbrev slotM (d : Dev nD) : Memref sig .tc .vmem S256x8 .f32 :=
  (gM.slice (slotR d) (fun _ => rfl)).squeeze S256x8 squeezes_S1x256x8_S256x8

/-- Every device has an index inside the counter arrays. -/
theorem one_inb (d : Dev nD) : ∀ a, (![d.val] : Fin 1 → ℕ) a + S1.size a ≤ S8.size a := by
  revert d; decide

/-- The barrier counter, and the send and receive counters of index `p`. -/
abbrev barS : Sem sig := (SemArray.scalar (sig.barrier 0 rfl) : Sems sig S_).sem
/-- The send counter of index `p`. -/
abbrev sendQ (p : Dev nD) : DmaSem sig :=
  ((cc0_scratch1.slice (Rect.unit (s := S8) ![p.val] S1.size (one_inb p))).squeeze S_ squeezes_S1_S_).sem
/-- The receive counter of index `p`. -/
abbrev recvQ (p : Dev nD) : DmaSem sig :=
  ((cc0_scratch2.slice (Rect.unit (s := S8) ![p.val] S1.size (one_inb p))).squeeze S_ squeezes_S1_S_).sem

/-- The send counters stand from place 2 on. -/
theorem sendQ_val (p : Dev nD) : (sendQ p).val = 2 + p.val := by revert p; decide
/-- The receive counters stand from place 10 on. -/
theorem recvQ_val (p : Dev nD) : (recvQ p).val = 10 + p.val := by revert p; decide

/-- The barrier counter of device `c`. -/
abbrev barCell (c : Dev nD) : GSem nD τ sig := ((c : Thread nD τ), .reg barS)
/-- The send counter `p` of device `c`. -/
abbrev sendCell (c p : Dev nD) : GSem nD τ sig := ((c : Thread nD τ), .dma (sendQ p))
/-- The receive counter `p` of device `c`. -/
abbrev recvCell (c p : Dev nD) : GSem nD τ sig := ((c : Thread nD τ), .dma (recvQ p))

/-- The kernel's own counters, as the launch indexes them: the sends, the receives; -/
abbrev osem : Dev nD ⊕ Dev nD → SemLoc sig := fun | .inl p => .dma (sendQ p) | .inr p => .dma (recvQ p)
/-- with the barrier, all the exchange uses. -/
abbrev csem : Unit ⊕ (Dev nD ⊕ Dev nD) → SemLoc sig := fun | .inl _ => .reg barS | .inr k => osem k
/-- The index of a counter of the exchange on one device. -/
abbrev CI : Type := Unit ⊕ (Dev nD ⊕ Dev nD)
/-- The counter of the exchange at a device and an index. -/
abbrev kcell (ck : Dev nD × CI) : GSem nD τ sig := ((ck.1 : Thread nD τ), csem ck.2)

/-- What one copy of a slot adds to its two counters. -/
abbrev N : ℕ := (slotM 0).view.dmaCredit
/-- A copy of a slot adds something. -/
theorem N_pos : 0 < N := View.dmaCredit_pos _ (by decide)

/-! ## Contents -/

/-- Device `c`'s block of the input, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The chunk of its block device `c` works on. -/
def chunk (c : Dev nD) : Vec F S256x256 .f32 :=
  (xM : Memref sig .tc .vmem S256x1024 .f32).view.readAt (Elt F)
    (Rect.unit (s := S256x1024) (k0_off1 c) S256x256.size (k0_off1_inb c)).toLoadRect (xstg m ρ c)

/-- The eight candidates per row computed from a chunk, in slot form. -/
def topOf (v : Vec F S256x256 .f32) : FVec F S1x256x8 .f32 :=
  k0_pay13 (k0_pay3 v) (k0_pay5 v) (k0_pay7 v) (k0_pay9 v) (k0_pay11 v) (k0_pay12 v)

/-- What device `c` computes from its chunk. -/
def cand (c : Dev nD) : FVec F S1x256x8 .f32 := topOf (chunk m ρ c)

/-- The valuation every gather buffer ends at: slot `d` holds device `d`'s candidates. -/
def landed : (cc0_scratch0 : Ref sig .tc).ty.Contents (Elt F) := fun i =>
  cand m ρ (show Fin 8 from i 0) (fun a => match a with
    | ⟨0, _⟩ => (0 : Fin 1)
    | ⟨1, _⟩ => (show Fin 256 from i 1)
    | ⟨2, _⟩ => (show Fin 8 from i 2))

/-- What is computed from the eight slots. -/
def mergeOf (s : Fin 8 → FVec F S1x256x8 .f32) : FVec F S256x8 .f32 :=
  k0_pay1
    (k0_pay18 (k0_pay14 (s 0)) (k0_pay15 (s 1)) (k0_pay16 (s 2)) (s 3) (s 4) (s 5) (s 6) (s 7))
    (k0_pay20 (k0_pay14 (s 0)) (k0_pay15 (s 1)) (k0_pay16 (s 2)) (s 3) (s 4) (s 5) (s 6) (s 7))
    (k0_pay22 (k0_pay14 (s 0)) (k0_pay15 (s 1)) (k0_pay16 (s 2)) (s 3) (s 4) (s 5) (s 6) (s 7))
    (k0_pay24 (k0_pay14 (s 0)) (k0_pay15 (s 1)) (k0_pay16 (s 2)) (s 3) (s 4) (s 5) (s 6) (s 7))
    (k0_pay25 (k0_pay14 (s 0)) (k0_pay15 (s 1)) (k0_pay16 (s 2)) (s 3) (s 4) (s 5) (s 6) (s 7))
    (k0_pay26 (k0_pay14 (s 0)) (k0_pay15 (s 1)) (k0_pay16 (s 2)) (s 3) (s 4) (s 5) (s 6) (s 7))
    (k0_pay27 (k0_pay14 (s 0)) (k0_pay15 (s 1)) (k0_pay16 (s 2)) (s 3) (s 4) (s 5) (s 6) (s 7))

/-- The kernel's result, the same on every device. -/
def outAt : (cc0_stg1_0 : Ref sig .tc).ty.Contents (Elt F) := mergeOf (fun d => cand m ρ d)

/-- Ownership of slot `d` of device `c`'s gather buffer, at share `q` and contents `f`. -/
def slotPts (c d : Dev nD) (q : PosShare TreeShare) (f : Buf (Elt F) ((c : Thread nD τ).loc cc0_scratch0)) : sProp 𝕄 :=
  (slotM d).view.loc (c : Thread nD τ) ↦[(slotM d).view.set]{q} f

omit [FloatOps F] in
/-- Ownership of a slot can be kept in an invariant. -/
instance slotPts_storable (c d : Dev nD) (q) (f) : BI.Storable (upEmb : UEmb _ 𝕄) (slotPts (F := F) c d q f) := by
  unfold slotPts; infer_instance

/-- The share of the own slot which the copy to `p` reads through. -/
def part (p : Dev nD) : PosShare TreeShare := Transfers.dealOf fullShare (Finset.univ : Finset (Dev nD)) p

/-! ## The schedule -/

/-- One round. The barrier of `c` has one duty of one unit per peer; receive and send counter `p` one duty, named `p`,
    of a slot's credit, unless `p` is the device itself. -/
def sched : Rounds.Schedule (GSem nD τ sig) (Dev nD) 𝕄 where
  duties g r :=
    if r = 0 ∧ g.1.2 = .tc then
      match g.2 with
      | .reg s => if s = barS then Finset.univ.erase g.1.1 else ∅
      | .dma q => (Finset.univ.filter fun p => q = recvQ p ∨ q = sendQ p).erase g.1.1
    else ∅
  unitless _ := False
  amount g _ _ := match g.2 with | .reg _ => 1 | .dma _ => N
  payload g _ d := match g.2 with
    | .reg _ => iprop(∃ f, slotPts d g.1.1 fullShare f)
    | .dma q => if 10 ≤ q.val then slotPts g.1.1 d fullShare (landed m ρ) else slotPts g.1.1 g.1.1 (part d) (landed m ρ)
  amount_pos g _ _ _ := by
    rcases g with ⟨t, s | q⟩
    · exact Nat.one_pos
    · exact N_pos

/-- So can every payload of the schedule. -/
instance sched_payload_storable (g : GSem nD τ sig) (r : ℕ) (d : Dev nD) :
    BI.Storable (upEmb : UEmb _ 𝕄) ((sched (F := F) m ρ).payload g r d) := by
  rcases g with ⟨t, s | q⟩
  · show BI.Storable upEmb iprop(∃ f, slotPts d t.1 fullShare f); infer_instance
  · show BI.Storable upEmb (if 10 ≤ q.val then slotPts t.1 d fullShare (landed m ρ) else slotPts t.1 t.1 (part d) (landed m ρ))
    split <;> infer_instance

section Sched
variable (c p : Dev nD)

/-- The duties the schedule selects for send counter `p`: one, named `p`, none for the device's own index. -/
theorem dutyset_send : (Finset.univ.filter fun d => sendQ p = recvQ d ∨ sendQ p = sendQ d).erase c
    = if p = c then ∅ else {p} := by revert c p; decide
/-- The same of receive counter `p`. -/
theorem dutyset_recv : (Finset.univ.filter fun d => recvQ p = recvQ d ∨ recvQ p = sendQ d).erase c
    = if p = c then ∅ else {p} := by revert c p; decide

/-- The barrier's duties are the peers. -/
theorem duties_bar : (sched (F := F) m ρ).duties (barCell c) 0 = Finset.univ.erase c := by
  dsimp only [sched]; rw [if_pos ⟨rfl, rfl⟩]; exact if_pos rfl
/-- Send counter `p` has the duty `p`, unless `p` is the device itself. -/
theorem duties_send : (sched (F := F) m ρ).duties (sendCell c p) 0 = if p = c then ∅ else {p} := by
  dsimp only [sched]; rw [if_pos ⟨rfl, rfl⟩]; exact dutyset_send c p
/-- Receive counter `p` has the duty `p`, unless `p` is the device itself. -/
theorem duties_recv : (sched (F := F) m ρ).duties (recvCell c p) 0 = if p = c then ∅ else {p} := by
  dsimp only [sched]; rw [if_pos ⟨rfl, rfl⟩]; exact dutyset_recv c p
/-- There is one round only. -/
theorem duties_later (g : GSem nD τ sig) : ∀ r, 1 ≤ r → (sched (F := F) m ρ).duties g r = ∅ :=
  fun r hr => by dsimp only [sched]; rw [if_neg fun h => by omega]
/-- A device's send or receive counter of its own index has no duty at all. -/
theorem duties_send_own {c p : Dev nD} (h : p = c) : ∀ r, 0 ≤ r → (sched (F := F) m ρ).duties (sendCell c p) r = ∅ := fun r _ => by
  rcases Nat.eq_zero_or_pos r with rfl | hr
  · rw [duties_send, if_pos h]
  · exact duties_later m ρ _ r hr
/-- The same of the receive counter of its own index. -/
theorem duties_recv_own {c p : Dev nD} (h : p = c) : ∀ r, 0 ≤ r → (sched (F := F) m ρ).duties (recvCell c p) r = ∅ := fun r _ => by
  rcases Nat.eq_zero_or_pos r with rfl | hr
  · rw [duties_recv, if_pos h]
  · exact duties_later m ρ _ r hr

/-- A signal adds one unit to the barrier. -/
theorem amount_bar (d : Dev nD) : (sched (F := F) m ρ).amount (barCell c) 0 d = 1 := rfl
/-- A copy adds a slot's credit to the send counter. -/
theorem amount_send (d : Dev nD) : (sched (F := F) m ρ).amount (sendCell c p) 0 d = N := rfl
/-- A copy adds a slot's credit to the receive counter. -/
theorem amount_recv (d : Dev nD) : (sched (F := F) m ρ).amount (recvCell c p) 0 d = N := rfl

/-- A barrier gathers seven units. -/
theorem expect_bar : (sched (F := F) m ρ).expect (barCell c) 0 = 7 := by
  unfold Schedule.expect Schedule.amountOf
  rw [duties_bar, Finset.sum_congr rfl fun d _ => amount_bar m ρ c d, Finset.sum_const, smul_eq_mul, mul_one]
  revert c; decide
/-- A peer's send counter gathers one copy's credit. -/
theorem expect_send (h : p ≠ c) : (sched (F := F) m ρ).expect (sendCell c p) 0 = N := by
  unfold Schedule.expect Schedule.amountOf; rw [duties_send, if_neg h, Finset.sum_singleton, amount_send]
/-- A peer's receive counter gathers one copy's credit. -/
theorem expect_recv (h : p ≠ c) : (sched (F := F) m ρ).expect (recvCell c p) 0 = N := by
  unfold Schedule.expect Schedule.amountOf; rw [duties_recv, if_neg h, Finset.sum_singleton, amount_recv]

/-- Device `d`'s signal to the barrier of `c` brings slot `c` of `d`'s buffer. -/
theorem payload_bar (d : Dev nD) : (sched (F := F) m ρ).payload (barCell c) 0 d = iprop(∃ f, slotPts d c fullShare f) := rfl
/-- The send counter returns the share of the own slot that the copy read through. -/
theorem payload_send (d : Dev nD) : (sched (F := F) m ρ).payload (sendCell c p) 0 d = slotPts c c (part d) (landed m ρ) := by
  dsimp only [sched]; rw [if_neg (by rw [sendQ_val]; have := p.isLt; simp only [nD] at this; omega)]
/-- The receive counter brings slot `d` of the own buffer, filled by device `d`. -/
theorem payload_recv (d : Dev nD) : (sched (F := F) m ρ).payload (recvCell c p) 0 d = slotPts c d fullShare (landed m ρ) := by
  dsimp only [sched]; rw [if_pos (by rw [recvQ_val]; omega)]

/-- What the barrier's seven units bring: slot `c` of every peer's buffer. -/
theorem rest_bar : bigSep ((sched (F := F) m ρ).duties (barCell c) 0 \ ∅) (fun d => (sched (F := F) m ρ).payload (barCell c) 0 d)
    = bigSep Finset.univ (fun d : Dev nD => if d = c then iprop(emp) else iprop(∃ f, slotPts d c fullShare f)) := by
  rw [Finset.sdiff_empty, duties_bar, ← Finset.filter_ne' Finset.univ c, bigSep_filter]
  refine bigSep_congr fun d _ => ?_
  by_cases h : d = c
  · rw [if_neg (fun h' => h' h), if_pos h]; rfl
  · rw [if_pos h, if_neg h, payload_bar]
/-- What the wait on send counter `p` brings: the lent share of the own slot. -/
theorem rest_send (h : p ≠ c) :
    bigSep ((sched (F := F) m ρ).duties (sendCell c p) 0 \ ∅) (fun d => (sched (F := F) m ρ).payload (sendCell c p) 0 d)
      = slotPts c c (part p) (landed m ρ) := by
  rw [Finset.sdiff_empty, duties_send, if_neg h, bigSep_singleton, payload_send]
/-- What the wait on receive counter `p` brings: the filled slot `p`. -/
theorem rest_recv (h : p ≠ c) :
    bigSep ((sched (F := F) m ρ).duties (recvCell c p) 0 \ ∅) (fun d => (sched (F := F) m ρ).payload (recvCell c p) 0 d)
      = slotPts c p fullShare (landed m ρ) := by
  rw [Finset.sdiff_empty, duties_recv, if_neg h, bigSep_singleton, payload_recv]

end Sched

/-! ## What each device owes at launch; the levels -/

/-- The devices, in the order in which the kernel visits its peers. -/
abbrev devs : List (Dev nD) := [0, 1, 2, 3, 4, 5, 6, 7]

/-- What device `c` owes the barrier of `p`, and its receive counter `c`: nothing if `p` is `c` itself. -/
def oweBar (c p : Dev nD) : CellTallies nD τ sig Unit := if p = c then 0 else tallyAt (barCell p) () 1
/-- What device `c` owes the receive counter `c` of `p`: nothing if `p` is `c` itself. -/
def oweRecv (c p : Dev nD) : CellTallies nD τ sig Unit := if p = c then 0 else tallyAt (recvCell p c) () N

/-- The debts `g p` for `p` in `l`, on top of `O`, the first of the list the outermost summand. -/
def owing (g : Dev nD → CellTallies nD τ sig Unit) (O : CellTallies nD τ sig Unit) : List (Dev nD) → CellTallies nD τ sig Unit
  | [] => O
  | p :: l => owing g O l + g p

/-- A tally of accumulated debts is the sum of the debts' tallies. -/
theorem owing_apply (g : Dev nD → CellTallies nD τ sig Unit) (O : CellTallies nD τ sig Unit) (x : GSem nD τ sig) (u : Unit) :
    ∀ l, owing g O l x u = O x u + (l.map fun p => g p x u).sum
  | [] => by simp [owing]
  | p :: l => by
    rw [owing, Pi.add_apply, Finsupp.add_apply, owing_apply g O x u l, List.map_cons, List.sum_cons]; omega

/-- The receive debts: all that is left when a device waits on its barrier. -/
def O₁ (c : Dev nD) : CellTallies nD τ sig Unit := owing (oweRecv c) 0 devs
/-- Everything device `c` owes at launch. -/
def O₀ (c : Dev nD) : CellTallies nD τ sig Unit := owing (oweBar c) (O₁ c) devs

/-- A barrier is no receive counter. -/
theorem bar_ne_recv {a b p : Dev nD} : barCell a ≠ recvCell b p := fun h => by
  have := congrArg Prod.snd h; cases this
/-- Barriers are told apart by their devices. -/
theorem bar_eq_iff {a b : Dev nD} : Iff (barCell a = barCell b) (a = b) :=
  ⟨fun h => Fin.ext (congrArg (fun g : GSem nD τ sig => g.1.1.val) h), fun h => h ▸ rfl⟩
/-- Receive counters are told apart by their indices. -/
theorem recvQ_inj {p q : Dev nD} (h : recvQ p = recvQ q) : p = q := by
  have := congrArg Fin.val h; rw [recvQ_val, recvQ_val] at this; exact Fin.ext (by omega)
/-- Send counters are told apart by their indices. -/
theorem sendQ_inj {p q : Dev nD} (h : sendQ p = sendQ q) : p = q := by
  have := congrArg Fin.val h; rw [sendQ_val, sendQ_val] at this; exact Fin.ext (by omega)
/-- A send counter is no receive counter. -/
theorem sendQ_ne_recvQ {p q : Dev nD} : sendQ p ≠ recvQ q := fun h => by
  have := congrArg Fin.val h; rw [sendQ_val, recvQ_val] at this; have := p.isLt; simp only [nD] at this; omega
/-- Receive counters of the mesh are told apart by device and index. -/
theorem recv_eq_iff {a b p q : Dev nD} : Iff (recvCell a p = recvCell b q) (a = b ∧ p = q) :=
  ⟨fun h => ⟨Fin.ext (congrArg (fun g : GSem nD τ sig => g.1.1.val) h),
    recvQ_inj (SemLoc.dma.inj (congrArg Prod.snd h))⟩, fun h => by rw [h.1, h.2]⟩

/-- The barrier debt, counter by counter. -/
theorem oweBar_apply (c p : Dev nD) (x : GSem nD τ sig) (u : Unit) :
    oweBar c p x u = if p ≠ c ∧ x = barCell p then 1 else 0 := by
  unfold oweBar
  by_cases h : p = c
  · rw [if_pos h, if_neg (fun h' => h'.1 h)]; rfl
  · rw [if_neg h, tallyAt_apply]
    by_cases hx : x = barCell p
    · rw [if_pos ⟨hx, rfl⟩, if_pos ⟨h, hx⟩]
    · rw [if_neg (fun h' => hx h'.1), if_neg (fun h' => hx h'.2)]
/-- The receive debt, counter by counter. -/
theorem oweRecv_apply (c p : Dev nD) (x : GSem nD τ sig) (u : Unit) :
    oweRecv c p x u = if p ≠ c ∧ x = recvCell p c then N else 0 := by
  unfold oweRecv
  by_cases h : p = c
  · rw [if_pos h, if_neg (fun h' => h'.1 h)]; rfl
  · rw [if_neg h, tallyAt_apply]
    by_cases hx : x = recvCell p c
    · rw [if_pos ⟨hx, rfl⟩, if_pos ⟨h, hx⟩]
    · rw [if_neg (fun h' => hx h'.1), if_neg (fun h' => hx h'.2)]

/-- A positive sum has a positive summand. -/
theorem sum_pos {l : List (Dev nD)} {f : Dev nD → ℕ} (h : 0 < (l.map f).sum) : ∃ p ∈ l, 0 < f p := by
  by_contra hn
  have : ∀ x ∈ l.map f, x = 0 := fun x hx => by
    obtain ⟨p, hp, rfl⟩ := List.mem_map.mp hx
    exact Nat.eq_zero_of_not_pos fun h' => hn ⟨p, hp, h'⟩
  rw [List.sum_eq_zero this] at h
  exact Nat.lt_irrefl 0 h

/-- Once the signals are sent, debts concern receive counters only. -/
theorem O₁_pos {c : Dev nD} {g : GSem nD τ sig} {u : Unit} (h : 0 < O₁ c g u) : ∃ p, g = recvCell p c := by
  unfold O₁ at h
  rw [owing_apply] at h
  rw [show (0 : CellTallies nD τ sig Unit) g u = 0 from rfl, Nat.zero_add] at h
  obtain ⟨p, -, hp⟩ := sum_pos h
  rw [oweRecv_apply] at hp
  by_cases hx : p ≠ c ∧ g = recvCell p c
  · exact ⟨p, hx.2⟩
  · rw [if_neg hx] at hp; exact absurd hp (Nat.lt_irrefl 0)
/-- Debts concern receive counters and barriers only. -/
theorem O₀_pos {c : Dev nD} {g : GSem nD τ sig} {u : Unit} (h : 0 < O₀ c g u) :
    (∃ p, g = recvCell p c) ∨ ∃ p, g = barCell p := by
  unfold O₀ at h
  rw [owing_apply] at h
  rcases Nat.eq_zero_or_pos (O₁ c g u) with h0 | h0
  · rw [h0, Nat.zero_add] at h
    obtain ⟨p, -, hp⟩ := sum_pos h
    rw [oweBar_apply] at hp
    by_cases hx : p ≠ c ∧ g = barCell p
    · exact .inr ⟨p, hx.2⟩
    · rw [if_neg hx] at hp; exact absurd hp (Nat.lt_irrefl 0)
  · exact .inl (O₁_pos h0)

/-- Each counter of a tensor core carries the one debt index. -/
def L (g : GSem nD τ sig) : Finset Unit := if g.1.2 = .tc then {()} else ∅
/-- Barriers at 1, receive counters at 2, everything else (staging, sends) at 0. -/
def lv (g : GSem nD τ sig) (_ : Unit) : ℕ := match g.2 with | .reg _ => 1 | .dma q => if 10 ≤ q.val then 2 else 0

/-- Other threads' counters carry none. -/
theorem L_of_ne (g : GSem nD τ sig) (h : g.1.2 ≠ .tc) : L g = ∅ := if_neg h
/-- A tensor core's counter carries it. -/
theorem L_tc (c : Dev nD) (sm : SemLoc sig) : L ((c : Thread nD τ), sm) = {()} := if_pos rfl
/-- A barrier's level is 1. -/
theorem lv_bar (c : Dev nD) (u : Unit) : lv (barCell c) u = 1 := rfl
/-- A receive counter's level is 2. -/
theorem lv_recv (c p : Dev nD) (u : Unit) : lv (recvCell c p) u = 2 := by
  dsimp only [lv]; exact if_pos (by rw [recvQ_val]; omega)

omit [FloatOps F] in
/-- A staging counter may be waited on at launch and at the end. -/
theorem mayWait_stage (c : Dev nD) (q : DmaSem sig) (hq : q.val < 10) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, rfl⟩ | ⟨p, rfl⟩ <;> exact Finset.mem_singleton_self _)
      (fun p hp => by rw [Finset.mem_singleton.mp hp]; dsimp only [lv]; rw [if_neg (by omega)])
      (fun g u hg => by
        rcases O₀_pos hg with ⟨p, rfl⟩ | ⟨p, rfl⟩
        · rw [lv_recv]; decide
        · rw [lv_bar]; decide)
  · rw [MayWait_zero]; iintro -; iempintro

omit [FloatOps F] in
/-- At its barrier wait a device owes receive credit only, which sits above the barriers. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨p, rfl⟩ := O₁_pos hg; exact Finset.mem_singleton_self _)
    (fun p hp => by rw [Finset.mem_singleton.mp hp]; exact le_of_eq (lv_bar c _))
    (fun g u hg => by obtain ⟨p, rfl⟩ := O₁_pos hg; rw [lv_recv]; decide)

/-! ## The pipeline's proof data -/

/-- The invariants of all the exchange's cells, under the names `K` the launch allocated them at, and that each cell has
    reached round 0. -/
def records (K : Dev nD × CI → ℕ) : sProp 𝕄 :=
  iprop((bigSep Finset.univ fun ck : Dev nD × CI => cellInv ER (sched m ρ) (K ck) (kcell ck))
    ∗ bigSep Finset.univ fun ck : Dev nD × CI => reached ER (kcell ck) 0)

/-- The records may be used again and again. -/
instance records_persistent (K : Dev nD × CI → ℕ) : BI.Persistent (records m ρ K) := by unfold records; infer_instance

/-- The records hold each counter's invariant. -/
theorem inv_at (K : Dev nD × CI → ℕ) (ck : Dev nD × CI) : records m ρ K ⊢ cellInv ER (sched m ρ) (K ck) (kcell ck) := by
  unfold records; exact Laws.sep_and.trans (and_elimL.trans (bigSep_elim (Finset.mem_univ ck)))
/-- The records hold each counter's reached mark. -/
theorem reached_at (K : Dev nD × CI → ℕ) (ck : Dev nD × CI) : records m ρ K ⊢ reached ER (kcell ck) 0 := by
  unfold records; exact Laws.sep_and.trans (and_elimR.trans (bigSep_elim (Finset.mem_univ ck)))

/-- What device `c` holds, besides the records: its positions, and the tokens of the duties it pays. -/
def linear (c : Dev nD) : sProp 𝕄 :=
  iprop(atPos ER (barCell c) 0 ∅ 0
    ∗ (bigSep Finset.univ fun p : Dev nD => atPos ER (sendCell c p) 0 ∅ 0)
    ∗ (bigSep Finset.univ fun p : Dev nD => atPos ER (recvCell c p) 0 ∅ 0)
    ∗ (bigSep Finset.univ fun p : Dev nD => dutyTok ER (barCell p) 0 c)
    ∗ (bigSep Finset.univ fun p : Dev nD => dutyTok ER (recvCell p c) 0 c)
    ∗ (bigSep Finset.univ fun p : Dev nD => dutyTok ER (sendCell c p) 0 p))

/-- The credit device `c` is launched with. -/
def credits (c : Dev nD) : sProp 𝕄 :=
  iprop(cred (tallyAt (barCell c) () 7)
    ∗ bigSep Finset.univ fun p : Dev nD => if p = c then iprop(emp) else cred (tallyAt (recvCell c p) () N))

/-- What device `c`'s body starts from. -/
def start (c : Dev nD) : sProp 𝕄 :=
  iprop((∃ K, records m ρ K ∗ linear c) ∗ credits c ∗ levAts L lv)

/-- Ownership of device `c`'s whole gather buffer. -/
def gathPts (c : Dev nD) (f : Buf (Elt F) ((c : Thread nD τ).loc cc0_scratch0)) : sProp 𝕄 :=
  ((c : Thread nD τ).loc cc0_scratch0) ↦{fullShare} f

/-- All the exchange's counters of device `c`, at zero. -/
def zeros (c : Dev nD) : sProp 𝕄 :=
  iprop(semVal (barCell c) 0 ∗ (bigSep Finset.univ fun p : Dev nD => semVal (sendCell c p) 0)
    ∗ bigSep Finset.univ fun p : Dev nD => semVal (recvCell c p) 0)

/-- What the body is given at the start, besides the staging buffers. -/
def Φ₀ (c : Dev nD) : sProp 𝕄 := iprop(start m ρ c ∗ ∃ f, gathPts c f)
/-- What the body leaves at the end, besides the staging buffers. -/
def Φ₁ (c : Dev nD) : sProp 𝕄 := iprop(gathPts c (landed m ρ) ∗ zeros c)

/-- The pipeline's proof data: arrays at launch, staging contents after the body, the debts before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- No loop of the kernel needs a variant. -/
abbrev 𝒱₀ : Variants := Variants.none

end Cert.TopK

end
-- ==== Proof.Steps.lean ====
/-
# One step of each kind, at a symbolic device and a symbolic peer

The kernel visits its eight possible peers in order and guards each step by "this peer is not myself". A step of each
kind is proved here once: for device `c` and peer `p`, whichever they are, with the guard's two cases inside.
-/
module

public import proofs.«01_k».proof.Proof.Proto

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed operations in the protocol's names -/

/-- A slot is made of whole words. -/
theorem wordExact_slot (d : Dev nD) : (slotM d).view.WordExact := (View.wordExact_bits rfl).reshape _ _

/-- A wait that names slot `d` of the gather buffer by any offsets equal to the slot's. -/
theorem wait_op_eq {α : Type} {k : PUnit → Prog (TpuEff nD τ sig (Elt F) Λ₀ .tc) α} (q : DmaSem sig) (d : Dev nD) {o : Fin 3 → ℕ} (ho : o = ![d.val, 0, 0])
    {hi : ∀ a, o a + S1x256x8.size a ≤ S8x256x8.size a}
    (h₁ h₂ : ((gM.slice (Rect.unit (s := S8x256x8) o S1x256x8.size hi) (fun _ => rfl)).squeeze S256x8 squeezes_S1x256x8_S256x8).view.WordExact) :
    (.op (.waitDma2 q ((gM.slice (Rect.unit (s := S8x256x8) o S1x256x8.size hi) (fun _ => rfl)).squeeze S256x8 squeezes_S1x256x8_S256x8)
        ((gM.slice (Rect.unit (s := S8x256x8) o S1x256x8.size hi) (fun _ => rfl)).squeeze S256x8 squeezes_S1x256x8_S256x8) h₁ h₂) k : Prog (TpuEff nD τ sig (Elt F) Λ₀ .tc) α)
      = .op (.waitDma2 q (slotM d) (slotM d) (wordExact_slot d) (wordExact_slot d)) k := by
  subst ho; rfl

/-- A copy of slot `c` to slot `c` of device `p`, by any offsets and any device number equal to these. -/
theorem send_op_eq {α : Type} {k : PUnit → Prog (TpuEff nD τ sig (Elt F) Λ₀ .tc) α} (c p : Dev nD) {o : Fin 3 → ℕ} (ho : o = ![c.val, 0, 0]) {o₁ : Fin 1 → ℕ} (ho₁ : o₁ = ![c.val])
    {hi : ∀ a, o a + S1x256x8.size a ≤ S8x256x8.size a} {hi₁ : ∀ a, o₁ a + S1.size a ≤ S8.size a}
    {n : Dev nD} (hn : n = p)
    (h₁ h₂ : ((gM.slice (Rect.unit (s := S8x256x8) o S1x256x8.size hi) (fun _ => rfl)).squeeze S256x8 squeezes_S1x256x8_S256x8).view.WordExact)
    (hsc : ((gM.slice (Rect.unit (s := S8x256x8) o S1x256x8.size hi) (fun _ => rfl)).squeeze S256x8 squeezes_S1x256x8_S256x8 : Memref sig (Dev.tc n : Thread nD τ).2.kind .vmem S256x8 .f32).view.ref.isScScratch = false)
    (ht) :
    (.op (.enqueueDma ((gM.slice (Rect.unit (s := S8x256x8) o S1x256x8.size hi) (fun _ => rfl)).squeeze S256x8 squeezes_S1x256x8_S256x8)
        (.remote (Dev.tc n : Thread nD τ)
          ((gM.slice (Rect.unit (s := S8x256x8) o S1x256x8.size hi) (fun _ => rfl)).squeeze S256x8 squeezes_S1x256x8_S256x8)
          (.dma (sendQ p)) hsc)
        (.dma ((cc0_scratch2.slice (Rect.unit (s := S8) o₁ S1.size hi₁)).squeeze S_ squeezes_S1_S_).sem) h₁ h₂ ht) k : Prog (TpuEff nD τ sig (Elt F) Λ₀ .tc) α)
      = .op (.enqueueDma (slotM c) (.remote (p : Thread nD τ) (slotM c) (.dma (sendQ p)) rfl) (.dma (recvQ c))
          (wordExact_slot c) (wordExact_slot c) ⟨⟨rfl, Or.inl rfl⟩, trivial⟩) k := by
  subst ho ho₁ hn; rfl

/-! ## The four steps -/

/-- A device owing `O`, whatever it has waited on. -/
def ow (c : Dev nD) (O : CellTallies nD τ sig Unit) : sProp 𝕄 := iprop(∃ W, owes (c : Thread nD τ) O W)

section Steps
variable (K : Dev nD × CI → ℕ) (c p : Dev nD)

/-- The invariants and reached marks of single cells, from the records. -/
theorem inv_bar : records m ρ K ⊢ cellInv ER (sched m ρ) (K (p, .inl ())) (barCell p) := inv_at m ρ K (p, .inl ())
/-- The invariant of a send counter. -/
theorem inv_send : records m ρ K ⊢ cellInv ER (sched m ρ) (K (c, .inr (.inl p))) (sendCell c p) := inv_at m ρ K (c, .inr (.inl p))
/-- The invariant of a receive counter. -/
theorem inv_recv : records m ρ K ⊢ cellInv ER (sched m ρ) (K (c, .inr (.inr p))) (recvCell c p) := inv_at m ρ K (c, .inr (.inr p))
/-- A barrier has reached round 0. -/
theorem reached_bar : records m ρ K ⊢ reached ER (barCell p) 0 := reached_at m ρ K (p, .inl ())
/-- A send counter has reached round 0. -/
theorem reached_send : records m ρ K ⊢ reached ER (sendCell c p) 0 := reached_at m ρ K (c, .inr (.inl p))
/-- A receive counter has reached round 0. -/
theorem reached_recv : records m ρ K ⊢ reached ER (recvCell c p) 0 := reached_at m ρ K (c, .inr (.inr p))

/-- The signal to `p`: slot `p` of the own buffer goes with it; at `p = c` nothing happens and the slot stays. -/
theorem sig_step {P : Prop} [Decidable P] {α : Type} {B : P → Prog (TpuEff nD τ sig (Elt F) Λ₀ .tc) α} {J : Prog (TpuEff nD τ sig (Elt F) Λ₀ .tc) α} {Q : α → sProp 𝕄}
    (hP : Iff P (p ≠ c)) (hB : ∀ h, B h = .op (.semSignal (p : Thread nD τ) barS 1) fun _ => J)
    (O : CellTallies nD τ sig Unit) (f : Buf (Elt F) ((c : Thread nD τ).loc cc0_scratch0)) :
    records m ρ K ⊢ iprop(ow c (O + oweBar c p) -∗ dutyTok ER (barCell p) 0 c -∗ slotPts c p fullShare f
      -∗ ((ow c O ∗ (if p = c then slotPts c p fullShare f else iprop(emp)) -∗ wp frame (wpE (defs₀ (F := F)) 𝒱₀ (c : Thread nD τ) none) Set.univ J Q)
          -∗ wp frame (wpE (defs₀ (F := F)) 𝒱₀ (c : Thread nD τ) none) Set.univ (if h : P then B h else J) Q)) := by
  by_cases h : p = c
  · rw [dif_neg (fun h' => hP.mp h' h), if_pos h]
    unfold oweBar; rw [if_pos h, add_zero]
    iintro - Ho - Hs Hk
    iapply Hk
    isplitl [Ho] <;> iassumption
  · rw [dif_pos (hP.mpr h), hB, if_neg h]
    unfold oweBar ow; rw [if_neg h]
    iintro #HR ⟨%W, Ho⟩ Ht Hs Hk
    iapply (Rounds.wp_signal 𝒱₀ ER (sched m ρ) (c : Thread nD τ) none (dst := (p : Thread nD τ)) (κ := K (p, .inl ()))
      (d := c) (by rw [duties_bar]; exact Finset.mem_erase.mpr ⟨fun h' => h h'.symm, Finset.mem_univ _⟩)
      ((amount_bar m ρ p c).trans (by decide)) () O rfl) $$ [Ho Ht Hs]
    · isplitr; · iapply (inv_bar m ρ K p); iexact HR
      isplitl [Ho]; · iexact Ho
      isplitl [Ht]; · iexact Ht
      isplitl [Hs]; · rw [payload_bar]; iexists f; iexact Hs
      iapply (reached_bar m ρ K p); iexact HR
    iintro Ho
    iapply Hk
    isplitl [Ho]; · iexists W; iexact Ho
    iempintro

omit [FloatOps F] in
/-- Every slot's copy counts alike. -/
theorem slot_amount (d : Dev nD) (q : DmaSem sig) : (slotM d).view.amount (.dma q) = N := rfl

/-- What a copy of slot `c` leaves in slot `c` of a peer is what `landed` says of it. -/
theorem landed_slot (d d' : Dev nD) (f : Buf (Elt F) ((d' : Thread nD τ).loc cc0_scratch0)) :
    slotPts d' d fullShare ((slotM d).view.write (Elt F) f ((slotM d).view.read (Elt F) (landed m ρ)) Finset.univ)
      = slotPts d' d fullShare (landed m ρ) := by
  unfold slotPts
  refine pointsTo_congr fun i hi => ?_
  rw [View.write_read_eq_piecewise, View.setOn_univ, Finset.piecewise_eq_of_mem _ _ _ hi]

/-- The copy to `p`: it reads slot `c` through its share and rewrites slot `c` of `p`. -/
theorem send_step {P : Prop} [Decidable P] {α : Type} {B : P → Prog (TpuEff nD τ sig (Elt F) Λ₀ .tc) α} {J : Prog (TpuEff nD τ sig (Elt F) Λ₀ .tc) α} {Q : α → sProp 𝕄}
    (hP : Iff P (p ≠ c)) (hB : ∀ h, B h = .op (.enqueueDma (slotM c) (.remote (p : Thread nD τ) (slotM c) (.dma (sendQ p)) rfl) (.dma (recvQ c))
          (wordExact_slot c) (wordExact_slot c) ⟨⟨rfl, Or.inl rfl⟩, trivial⟩) fun _ => J)
    (O : CellTallies nD τ sig Unit) :
    records m ρ K ⊢ iprop(ow c (O + oweRecv c p) -∗ dutyTok ER (sendCell c p) 0 p -∗ dutyTok ER (recvCell p c) 0 c -∗ slotPts c c (part p) (landed m ρ) -∗ (if p = c then iprop(emp) else iprop(∃ f, slotPts p c fullShare f))
      -∗ ((ow c O ∗ (if p = c then slotPts c c (part p) (landed m ρ) else cred (tallyAt (sendCell c p) () N)) -∗ wp frame (wpE (defs₀ (F := F)) 𝒱₀ (c : Thread nD τ) none) Set.univ J Q)
          -∗ wp frame (wpE (defs₀ (F := F)) 𝒱₀ (c : Thread nD τ) none) Set.univ (if h : P then B h else J) Q)) := by
  by_cases h : p = c
  · rw [dif_neg (fun h' => hP.mp h' h), if_pos h, if_pos h]
    unfold oweRecv; rw [if_pos h, add_zero]
    iintro - Ho - - Hs - Hk
    iapply Hk
    isplitl [Ho] <;> iassumption
  · rw [dif_pos (hP.mpr h), hB, if_neg h, if_neg h]
    unfold oweRecv ow; rw [if_neg h]
    iintro #HR ⟨%W, Ho⟩ Ht₁ Ht₂ Hs ⟨%f, Hd⟩ Hk
    iapply (Rounds.wp_send_pointsTo 𝒱₀ ER (sched m ρ) (c : Thread nD τ) none (κ₁ := K (c, .inr (.inl p))) (κ₂ := K (p, .inr (.inr c)))
      (r₁ := 0) (r₂ := 0) (d₁ := p) (d₂ := c) (fs := landed m ρ) (fd := f) (q := part p)
      (by rw [duties_send, if_neg h]; exact Finset.mem_singleton_self _)
      (by rw [duties_recv, if_neg (fun h' => h h'.symm)]; exact Finset.mem_singleton_self _)
      () () N (slot_amount c _) (amount_send m ρ c p p) (amount_recv m ρ p c c) O rfl (W := W)
      (by rw [payload_send]; exact BI.Entails.refl _)
      (by rw [payload_recv]; exact BIBase.Entails.of_eq (landed_slot m ρ c p f))) $$ [Ho Ht₁ Ht₂ Hs Hd]
    · isplitr; · iapply (inv_send m ρ K c p); iexact HR
      isplitr; · iapply (inv_recv m ρ K p c); iexact HR
      isplitl [Hs]; · unfold slotPts; iexact Hs
      isplitl [Hd]; · unfold slotPts; iexact Hd
      isplitl [Ho]; · iexact Ho
      isplitl [Ht₁]; · iexact Ht₁
      isplitr; · iapply (reached_send m ρ K c p); iexact HR
      isplitl [Ht₂]; · iexact Ht₂
      iapply (reached_recv m ρ K p c); iexact HR
    iintro ⟨Hc, Ho⟩
    iapply Hk
    isplitl [Ho]; · iexists W; iexact Ho
    iexact Hc

/-- The wait for `p`'s copy: slot `p` arrives with `p`'s candidates, and the counter is closed at zero. -/
theorem recv_step {P : Prop} [Decidable P] {α : Type} {B : P → Prog (TpuEff nD τ sig (Elt F) Λ₀ .tc) α} {J : Prog (TpuEff nD τ sig (Elt F) Λ₀ .tc) α} {Q : α → sProp 𝕄}
    (hP : Iff P (p ≠ c)) (hB : ∀ h, B h = .op (.waitDma2 (recvQ p) (slotM p) (slotM p) (wordExact_slot p) (wordExact_slot p)) fun _ => J) :
    records m ρ K ⊢ iprop(ow c 0 -∗ atPos ER (recvCell c p) 0 ∅ 0 -∗ (if p = c then iprop(emp) else cred (tallyAt (recvCell c p) () N))
      -∗ ((ow c 0 ∗ semVal (recvCell c p) 0 ∗ (if p = c then iprop(emp) else slotPts c p fullShare (landed m ρ)) -∗ wp frame (wpE (defs₀ (F := F)) 𝒱₀ (c : Thread nD τ) none) Set.univ J Q)
          -∗ wp frame (wpE (defs₀ (F := F)) 𝒱₀ (c : Thread nD τ) none) Set.univ (if h : P then B h else J) Q)) := by
  by_cases h : p = c
  · rw [dif_neg (fun h' => hP.mp h' h), if_pos h, if_pos h]
    iintro #HR Ho Ha - Hk
    imod (Rounds.cell_close ER (sched m ρ) (Set.mem_univ (K (c, .inr (.inr p)))) (fun h => h) (R := 0)
      (duties_recv_own m ρ h)) $$ [Ha] with Hz
    · isplitr; · iapply (inv_recv m ρ K c p); iexact HR
      iexact Ha
    iapply Hk
    isplitl [Ho]; · iexact Ho
    isplitl [Hz]; · iexact Hz
    iempintro
  · rw [dif_pos (hP.mpr h), hB, if_neg h, if_neg h]
    unfold ow
    iintro #HR ⟨%W, Ho⟩ Ha Hc Hk
    iapply (Rounds.wp_wait_rest_token 𝒱₀ ER (sched m ρ) (c : Thread nD τ) none (κ := K (c, .inr (.inr p)))
      (wpE_waitDma2_eq 𝒱₀ (c : Thread nD τ) none Set.univ) (Set.mem_univ _) () (O := 0) (W := W) (R := 0) (m := 0) (T := ∅)
      (by rw [Nat.zero_add]; exact (expect_recv m ρ c p h).symm)) $$ [Ho Ha Hc]
    · isplitr; · iapply (inv_recv m ρ K c p); iexact HR
      isplitl [Hc]; · iexact Hc
      isplitl [Ho]; · iexact Ho
      isplitr; · rw [MayWait_zero]; iempintro
      iexact Ha
    iintro ⟨Ho, Ha, -, Hp⟩
    ihave Hs := (Entails.of_eq (rest_recv m ρ c p h)) $$ Hp
    imod (Rounds.cell_close ER (sched m ρ) (Set.mem_univ (K (c, .inr (.inr p)))) (fun h => h) (R := 0 + 1)
      (duties_later m ρ (recvCell c p))) $$ [Ha] with Hz
    · isplitr; · iapply (inv_recv m ρ K c p); iexact HR
      iexact Ha
    iapply Hk
    isplitl [Ho]; · iexists _; iexact Ho
    isplitl [Hz]; · iexact Hz
    iexact Hs

/-- The wait for the own copy to `p`: its share of slot `c` comes back, and the counter is closed at zero. -/
theorem sendwait_step {P : Prop} [Decidable P] {α : Type} {B : P → Prog (TpuEff nD τ sig (Elt F) Λ₀ .tc) α} {J : Prog (TpuEff nD τ sig (Elt F) Λ₀ .tc) α} {Q : α → sProp 𝕄}
    (hP : Iff P (p ≠ c)) (hB : ∀ h, B h = .op (.waitDma2 (sendQ p) (slotM c) (slotM c) (wordExact_slot c) (wordExact_slot c)) fun _ => J) :
    records m ρ K ⊢ iprop(ow c 0 -∗ atPos ER (sendCell c p) 0 ∅ 0 -∗ (if p = c then slotPts c c (part p) (landed m ρ) else cred (tallyAt (sendCell c p) () N))
      -∗ ((ow c 0 ∗ semVal (sendCell c p) 0 ∗ slotPts c c (part p) (landed m ρ) -∗ wp frame (wpE (defs₀ (F := F)) 𝒱₀ (c : Thread nD τ) none) Set.univ J Q)
          -∗ wp frame (wpE (defs₀ (F := F)) 𝒱₀ (c : Thread nD τ) none) Set.univ (if h : P then B h else J) Q)) := by
  by_cases h : p = c
  · rw [dif_neg (fun h' => hP.mp h' h), if_pos h]
    iintro #HR Ho Ha Hs Hk
    imod (Rounds.cell_close ER (sched m ρ) (Set.mem_univ (K (c, .inr (.inl p)))) (fun h => h) (R := 0)
      (duties_send_own m ρ h)) $$ [Ha] with Hz
    · isplitr; · iapply (inv_send m ρ K c p); iexact HR
      iexact Ha
    iapply Hk
    isplitl [Ho]; · iexact Ho
    isplitl [Hz] <;> iassumption
  · rw [dif_pos (hP.mpr h), hB, if_neg h]
    unfold ow
    iintro #HR ⟨%W, Ho⟩ Ha Hc Hk
    iapply (Rounds.wp_wait_rest_token 𝒱₀ ER (sched m ρ) (c : Thread nD τ) none (κ := K (c, .inr (.inl p)))
      (wpE_waitDma2_eq 𝒱₀ (c : Thread nD τ) none Set.univ) (Set.mem_univ _) () (O := 0) (W := W) (R := 0) (m := 0) (T := ∅)
      (by rw [Nat.zero_add]; exact (expect_send m ρ c p h).symm)) $$ [Ho Ha Hc]
    · isplitr; · iapply (inv_send m ρ K c p); iexact HR
      isplitl [Hc]; · iexact Hc
      isplitl [Ho]; · iexact Ho
      isplitr; · rw [MayWait_zero]; iempintro
      iexact Ha
    iintro ⟨Ho, Ha, -, Hp⟩
    ihave Hs := (Entails.of_eq (rest_send m ρ c p h)) $$ Hp
    imod (Rounds.cell_close ER (sched m ρ) (Set.mem_univ (K (c, .inr (.inl p)))) (fun h => h) (R := 0 + 1)
      (duties_later m ρ (sendCell c p))) $$ [Ha] with Hz
    · isplitr; · iapply (inv_send m ρ K c p); iexact HR
      iexact Ha
    iapply Hk
    isplitl [Ho]; · iexists _; iexact Ho
    isplitl [Hz] <;> iassumption

/-- The barrier wait: slot `c` of every peer's buffer arrives, and the counter is closed at zero. -/
theorem barrier_step {α : Type} {k : PUnit → Prog (TpuEff nD τ sig (Elt F) Λ₀ .tc) α} {Q : α → sProp 𝕄} :
    records m ρ K ⊢ iprop(levAts L lv -∗ ow c (O₁ c) -∗ atPos ER (barCell c) 0 ∅ 0 -∗ cred (tallyAt (barCell c) () 7)
      -∗ ((ow c (O₁ c) ∗ semVal (barCell c) 0
            ∗ bigSep Finset.univ (fun d : Dev nD => if d = c then iprop(emp) else iprop(∃ f, slotPts d c fullShare f)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 7) k) Q)) := by
  unfold ow
  iintro #HR #Hlev ⟨%W, Ho⟩ Ha Hc Hk
  iapply (Rounds.wp_wait_rest_token 𝒱₀ ER (sched m ρ) (c : Thread nD τ) none (κ := K (c, .inl ()))
    (wpE_semWait_eq 𝒱₀ (c : Thread nD τ) none Set.univ) (Set.mem_univ _) () (O := O₁ c) (W := W) (R := 0) (m := 0) (T := ∅)
    (by rw [expect_bar])) $$ [Ho Ha Hc]
  · isplitr; · iapply (inv_bar m ρ K c); iexact HR
    isplitl [Hc]; · iexact Hc
    isplitl [Ho]; · iexact Ho
    isplitr; · iapply (mayWait_bar c); iexact Hlev
    iexact Ha
  iintro ⟨Ho, Ha, -, Hp⟩
  ihave Hs := (Entails.of_eq (rest_bar m ρ c)) $$ Hp
  imod (Rounds.cell_close ER (sched m ρ) (Set.mem_univ (K (c, .inl ()))) (fun h => h) (R := 0 + 1)
    (duties_later m ρ (barCell c))) $$ [Ha] with Hz
  · isplitr; · iapply (inv_bar m ρ K c); iexact HR
    iexact Ha
  iapply Hk
  isplitl [Ho]; · iexists _; iexact Ho
  isplitl [Hz] <;> iassumption

/-- `send_step` over the printed form: the offsets and the device number as computed. -/
theorem send_step_at {P : Prop} [Decidable P] {α : Type} {J : Prog (TpuEff nD τ sig (Elt F) Λ₀ .tc) α} {Q : α → sProp 𝕄}
    (hP : Iff P (p ≠ c)) (O : CellTallies nD τ sig Unit) {o : Fin 3 → ℕ} {o₁ : Fin 1 → ℕ} {n : ℕ}
    (ho : o = ![c.val, 0, 0]) (ho₁ : o₁ = ![c.val]) (hn : n = p.val)
    {hi : P → ∀ a, o a + S1x256x8.size a ≤ S8x256x8.size a} {hi₁ : P → ∀ a, o₁ a + S1.size a ≤ S8.size a} {hl : P → n < nD} :
    records m ρ K ⊢ iprop(ow c (O + oweRecv c p) -∗ dutyTok ER (sendCell c p) 0 p -∗ dutyTok ER (recvCell p c) 0 c -∗ slotPts c c (part p) (landed m ρ) -∗ (if p = c then iprop(emp) else iprop(∃ f, slotPts p c fullShare f))
      -∗ ((ow c O ∗ (if p = c then slotPts c c (part p) (landed m ρ) else cred (tallyAt (sendCell c p) () N)) -∗ wp frame (wpE (defs₀ (F := F)) 𝒱₀ (c : Thread nD τ) none) Set.univ J Q)
          -∗ wp frame (wpE (defs₀ (F := F)) 𝒱₀ (c : Thread nD τ) none) Set.univ
            (if h : P then
              .op (.enqueueDma ((gM.slice (Rect.unit (s := S8x256x8) o S1x256x8.size (hi h)) (fun _ => rfl)).squeeze S256x8 squeezes_S1x256x8_S256x8)
                (.remote (Dev.tc (⟨n, hl h⟩ : Dev nD) : Thread nD τ)
                  ((gM.slice (Rect.unit (s := S8x256x8) o S1x256x8.size (hi h)) (fun _ => rfl)).squeeze S256x8 squeezes_S1x256x8_S256x8)
                  (.dma (sendQ p)) rfl)
                (.dma ((cc0_scratch2.slice (Rect.unit (s := S8) o₁ S1.size (hi₁ h))).squeeze S_ squeezes_S1_S_).sem)
                ((View.wordExact_bits rfl).reshape _ _) ((View.wordExact_bits rfl).reshape _ _) ⟨⟨rfl, Or.inl rfl⟩, trivial⟩) fun _ => J
            else J) Q)) :=
  send_step m ρ K c p hP (fun _ => send_op_eq c p ho ho₁ (Fin.ext hn) _ _ _ _) O

/-- `sendwait_step` over the printed form. -/
theorem sendwait_step_at {P : Prop} [Decidable P] {α : Type} {J : Prog (TpuEff nD τ sig (Elt F) Λ₀ .tc) α} {Q : α → sProp 𝕄}
    (hP : Iff P (p ≠ c)) {o : Fin 3 → ℕ} (ho : o = ![c.val, 0, 0]) {hi : P → ∀ a, o a + S1x256x8.size a ≤ S8x256x8.size a} :
    records m ρ K ⊢ iprop(ow c 0 -∗ atPos ER (sendCell c p) 0 ∅ 0 -∗ (if p = c then slotPts c c (part p) (landed m ρ) else cred (tallyAt (sendCell c p) () N))
      -∗ ((ow c 0 ∗ semVal (sendCell c p) 0 ∗ slotPts c c (part p) (landed m ρ) -∗ wp frame (wpE (defs₀ (F := F)) 𝒱₀ (c : Thread nD τ) none) Set.univ J Q)
          -∗ wp frame (wpE (defs₀ (F := F)) 𝒱₀ (c : Thread nD τ) none) Set.univ
            (if h : P then
              .op (.waitDma2 (sendQ p) ((gM.slice (Rect.unit (s := S8x256x8) o S1x256x8.size (hi h)) (fun _ => rfl)).squeeze S256x8 squeezes_S1x256x8_S256x8)
                ((gM.slice (Rect.unit (s := S8x256x8) o S1x256x8.size (hi h)) (fun _ => rfl)).squeeze S256x8 squeezes_S1x256x8_S256x8)
                ((View.wordExact_bits rfl).reshape _ _) ((View.wordExact_bits rfl).reshape _ _)) fun _ => J
            else J) Q)) :=
  sendwait_step m ρ K c p hP (fun _ => wait_op_eq (sendQ p) c ho _ _)

end Steps

end Cert.TopK

end
-- ==== Proof.Slots.lean ====
/-
# The printed guards and offsets, the slots of a gather buffer, and the loads and stores
-/
module

public import proofs.«01_k».proof.Proof.Steps
public import proofs.«01_k».proof.Proof.Gen.KernelIdeal.Points

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed guards and offsets -/

/-- The kernel's number for its device, in words. -/
abbrev me (c : Dev nD) : BitVec 32 :=
  Scalar.addi (Scalar.addi (Scalar.muli (Scalar.remsi (Scalar.divsi (Dev.word c) 4#32) 2#32) 4#32)
    (Scalar.muli (Scalar.remsi (Scalar.divsi (Dev.word c) 2#32) 2#32) 2#32)) (Scalar.remsi (Scalar.divsi (Dev.word c) 1#32) 2#32)

/-- The guard of the waits on the receive counters: device `p` is not the own one. -/
theorem guard_recv (c p : Dev nD) :
    Iff (Scalar.cmpi .ne (Scalar.extui (Scalar.cmpi .ne (me c) (BitVec.ofNat 32 p.val)) : BitVec 32) 0#32 = 1#1) (p ≠ c) := by
  revert c p; decide

/-- The guard of the signal, for peer 0: device 0 is not the own one. -/
theorem cond1 (c : Dev nD) : Iff (k0_cond1 c = 1#1) ((0 : Dev nD) ≠ c) := by revert c; decide
/-- The guard of the signal, for peer 1: device 1 is not the own one. -/
theorem cond2 (c : Dev nD) : Iff (k0_cond2 c = 1#1) ((1 : Dev nD) ≠ c) := by revert c; decide
/-- The guard of the signal, for peer 2: device 2 is not the own one. -/
theorem cond3 (c : Dev nD) : Iff (k0_cond3 c = 1#1) ((2 : Dev nD) ≠ c) := by revert c; decide
/-- The guard of the signal, for peer 3: device 3 is not the own one. -/
theorem cond4 (c : Dev nD) : Iff (k0_cond4 c = 1#1) ((3 : Dev nD) ≠ c) := by revert c; decide
/-- The guard of the signal, for peer 4: device 4 is not the own one. -/
theorem cond5 (c : Dev nD) : Iff (k0_cond5 c = 1#1) ((4 : Dev nD) ≠ c) := by revert c; decide
/-- The guard of the signal, for peer 5: device 5 is not the own one. -/
theorem cond6 (c : Dev nD) : Iff (k0_cond6 c = 1#1) ((5 : Dev nD) ≠ c) := by revert c; decide
/-- The guard of the signal, for peer 6: device 6 is not the own one. -/
theorem cond7 (c : Dev nD) : Iff (k0_cond7 c = 1#1) ((6 : Dev nD) ≠ c) := by revert c; decide
/-- The guard of the signal, for peer 7: device 7 is not the own one. -/
theorem cond8 (c : Dev nD) : Iff (k0_cond8 c = 1#1) ((7 : Dev nD) ≠ c) := by revert c; decide
/-- The guard of the copy, for peer 0: device 0 is not the own one. -/
theorem cond9 (c : Dev nD) : Iff (k0_cond9 c = 1#1) ((0 : Dev nD) ≠ c) := by revert c; decide
/-- The guard of the copy, for peer 1: device 1 is not the own one. -/
theorem cond10 (c : Dev nD) : Iff (k0_cond10 c = 1#1) ((1 : Dev nD) ≠ c) := by revert c; decide
/-- The guard of the copy, for peer 2: device 2 is not the own one. -/
theorem cond11 (c : Dev nD) : Iff (k0_cond11 c = 1#1) ((2 : Dev nD) ≠ c) := by revert c; decide
/-- The guard of the copy, for peer 3: device 3 is not the own one. -/
theorem cond12 (c : Dev nD) : Iff (k0_cond12 c = 1#1) ((3 : Dev nD) ≠ c) := by revert c; decide
/-- The guard of the copy, for peer 4: device 4 is not the own one. -/
theorem cond13 (c : Dev nD) : Iff (k0_cond13 c = 1#1) ((4 : Dev nD) ≠ c) := by revert c; decide
/-- The guard of the copy, for peer 5: device 5 is not the own one. -/
theorem cond14 (c : Dev nD) : Iff (k0_cond14 c = 1#1) ((5 : Dev nD) ≠ c) := by revert c; decide
/-- The guard of the copy, for peer 6: device 6 is not the own one. -/
theorem cond15 (c : Dev nD) : Iff (k0_cond15 c = 1#1) ((6 : Dev nD) ≠ c) := by revert c; decide
/-- The guard of the copy, for peer 7: device 7 is not the own one. -/
theorem cond16 (c : Dev nD) : Iff (k0_cond16 c = 1#1) ((7 : Dev nD) ≠ c) := by revert c; decide
/-- The guard of the wait on the send counter, for peer 0: device 0 is not the own one. -/
theorem cond25 (c : Dev nD) : Iff (k0_cond25 c = 1#1) ((0 : Dev nD) ≠ c) := by revert c; decide
/-- The guard of the wait on the send counter, for peer 1: device 1 is not the own one. -/
theorem cond26 (c : Dev nD) : Iff (k0_cond26 c = 1#1) ((1 : Dev nD) ≠ c) := by revert c; decide
/-- The guard of the wait on the send counter, for peer 2: device 2 is not the own one. -/
theorem cond27 (c : Dev nD) : Iff (k0_cond27 c = 1#1) ((2 : Dev nD) ≠ c) := by revert c; decide
/-- The guard of the wait on the send counter, for peer 3: device 3 is not the own one. -/
theorem cond28 (c : Dev nD) : Iff (k0_cond28 c = 1#1) ((3 : Dev nD) ≠ c) := by revert c; decide
/-- The guard of the wait on the send counter, for peer 4: device 4 is not the own one. -/
theorem cond29 (c : Dev nD) : Iff (k0_cond29 c = 1#1) ((4 : Dev nD) ≠ c) := by revert c; decide
/-- The guard of the wait on the send counter, for peer 5: device 5 is not the own one. -/
theorem cond30 (c : Dev nD) : Iff (k0_cond30 c = 1#1) ((5 : Dev nD) ≠ c) := by revert c; decide
/-- The guard of the wait on the send counter, for peer 6: device 6 is not the own one. -/
theorem cond31 (c : Dev nD) : Iff (k0_cond31 c = 1#1) ((6 : Dev nD) ≠ c) := by revert c; decide
/-- The guard of the wait on the send counter, for peer 7: device 7 is not the own one. -/
theorem cond32 (c : Dev nD) : Iff (k0_cond32 c = 1#1) ((7 : Dev nD) ≠ c) := by revert c; decide

/-- The chunk's offset in the staged block. -/
theorem off1_eq (c : Dev nD) : k0_off1 c = ![0, 512 * (c.val / 4) + 256 * (c.val % 2)] := by revert c; decide
/-- The own slot's offset in the gather buffer. -/
theorem off2_eq (c : Dev nD) : k0_off2 c = ![c.val, 0, 0] := by revert c; decide
/-- The own index in the counter arrays. -/
theorem off3_eq (c : Dev nD) : k0_off3 c = ![c.val] := by revert c; decide

/-! ## Slots -/

omit [FloatOps F] in
/-- A place of the gather buffer belongs to the slot of its first coordinate. -/
theorem mem_slot (d : Dev nD) (i : (cc0_scratch0 : Ref sig .tc).ty.shape.Idx) : Iff (i ∈ (slotM d).view.set) ((show Fin 8 from i 0) = d) := by
  rw [show (slotM d).view.set = (slotR d).set from (View.set_reshape _ _).trans (View.set_slice_whole cc0_scratch0 (slotR d)), Rect.mem_set_unit]
  constructor
  · intro h
    have := h 0
    have e : (i 0).val = d.val := by
      have h1 : (![d.val, 0, 0] : Fin 3 → ℕ) 0 = d.val := rfl
      have h2 : S1x256x8.size 0 = 1 := rfl
      rw [h1, h2] at this; omega
    exact Fin.ext e
  · rintro h a
    have e : (i 0).val = d.val := congrArg Fin.val h
    match a with
    | ⟨0, _⟩ => exact ⟨le_of_eq e.symm, lt_of_eq_of_lt e (Nat.lt_succ_self _)⟩
    | ⟨1, _⟩ => exact ⟨Nat.zero_le _, (i 1).isLt.trans_le (le_of_eq (by rfl))⟩
    | ⟨2, _⟩ => exact ⟨Nat.zero_le _, (i 2).isLt.trans_le (le_of_eq (by rfl))⟩

/-- A whole gather buffer is its eight slots. -/
theorem gath_slots (c : Dev nD) (f : Buf (Elt F) ((c : Thread nD τ).loc cc0_scratch0)) :
    gathPts c f = bigSep Finset.univ (fun d : Dev nD => slotPts c d fullShare f) := by
  unfold gathPts slotPts
  have hu : (Finset.univ : Finset (Idx ((c : Thread nD τ).loc cc0_scratch0)))
      = (Finset.univ : Finset (Dev nD)).biUnion (fun d => (slotM d).view.set) :=
    (Finset.eq_univ_iff_forall.mpr fun i => Finset.mem_biUnion.mpr ⟨(show Fin 8 from i 0), Finset.mem_univ _, (mem_slot _ i).mpr rfl⟩).symm
  rw [hu]
  refine pointsTo_biUnion (ℓ := (c : Thread nD τ).loc cc0_scratch0) (q := fullShare) (f := f) (Finset.univ : Finset (Dev nD)) (fun d => (slotM d).view.set) ?_
  exact fun d _ d' _ hne => Finset.disjoint_left.mpr fun i hi hi' => hne (((mem_slot d i).mp hi).symm.trans ((mem_slot d' i).mp hi'))

/-- A slot's ownership dealt into one share per peer. -/
theorem slot_parts (c d : Dev nD) (f : Buf (Elt F) ((c : Thread nD τ).loc cc0_scratch0)) :
    slotPts c d fullShare f = bigSep Finset.univ (fun p : Dev nD => slotPts c d (part p) f) := by
  unfold slotPts part
  exact Transfers.pointsTo_deal _ Finset.univ_nonempty _

/-- Reading slot `d` of the final valuation gives device `d`'s candidates. -/
theorem read_landed (d : Dev nD) {o : Fin 3 → ℕ} (ho : o = ![d.val, 0, 0]) {hi : ∀ a, o a + S1x256x8.size a ≤ S8x256x8.size a} :
    (gM.access (Rect.unit (s := S8x256x8) o S1x256x8.size hi)).read (Elt F) (landed m ρ) = cand m ρ d := by
  subst ho
  funext x
  show landed m ρ _ = _
  unfold landed
  have h0 : (x 0).val = 0 := Nat.lt_one_iff.mp (x 0).isLt
  congr 1
  · congr 1
    exact Fin.ext (by show d.val + 1 * (x 0).val = d.val; rw [h0]; omega)
  · funext a
    match a with
    | ⟨0, _⟩ => exact Fin.ext h0.symm
    | ⟨1, _⟩ => exact Fin.ext (by show 0 + 1 * (x 1).val = (x 1).val; omega)
    | ⟨2, _⟩ => exact Fin.ext (by show 0 + 1 * (x 2).val = (x 2).val; omega)

omit [FloatOps F] in
/-- An access at a slot's offset touches that slot. -/
theorem access_set (d : Dev nD) {o : Fin 3 → ℕ} (ho : o = ![d.val, 0, 0]) {hi : ∀ a, o a + S1x256x8.size a ≤ S8x256x8.size a} :
    (gM.access (Rect.unit (s := S8x256x8) o S1x256x8.size hi)).set = (slotM d).view.set := by
  subst ho; exact (View.set_reshape _ _).symm

/-- The store of the own candidates leaves the own slot as `landed` says. -/
theorem store_landed (c : Dev nD) {o : Fin 3 → ℕ} (ho : o = ![c.val, 0, 0]) {hi : ∀ a, o a + S1x256x8.size a ≤ S8x256x8.size a}
    (f : Buf (Elt F) ((c : Thread nD τ).loc cc0_scratch0)) :
    slotPts c c fullShare ((gM.access (Rect.unit (s := S8x256x8) o S1x256x8.size hi)).write (Elt F) f (cand m ρ c) Finset.univ)
      = slotPts c c fullShare (landed m ρ) := by
  unfold slotPts
  refine pointsTo_congr fun i hi' => ?_
  rw [← read_landed m ρ c ho (hi := hi), View.write_read_eq_piecewise, View.setOn_univ, access_set c ho, Finset.piecewise_eq_of_mem _ _ _ hi']

/-! ## Eight summands -/

/-- A family over the devices is its eight members. -/
theorem bigSep_dev (Φ : Dev nD → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Eight members make the family. -/
theorem gather_dev (Φ : Dev nD → sProp 𝕄) :
    Φ 0 ⊢ iprop(Φ 1 -∗ Φ 2 -∗ Φ 3 -∗ Φ 4 -∗ Φ 5 -∗ Φ 6 -∗ Φ 7 -∗ bigSep Finset.univ Φ) := by
  rw [bigSep_dev]
  iintro H0 H1 H2 H3 H4 H5 H6 H7
  isplitl [H0]; · iexact H0
  isplitl [H1]; · iexact H1
  isplitl [H2]; · iexact H2
  isplitl [H3]; · iexact H3
  isplitl [H4]; · iexact H4
  isplitl [H5]; · iexact H5
  isplitl [H6] <;> iassumption

/-- Of the slots kept or given away by the signals, what is left is the own slot. -/
theorem own_slot (c : Dev nD) (f : Buf (Elt F) ((c : Thread nD τ).loc cc0_scratch0)) :
    bigSep Finset.univ (fun p : Dev nD => if p = c then slotPts c p fullShare f else iprop(emp)) = slotPts c c fullShare f := by
  refine (bigSep_filter Finset.univ (fun p : Dev nD => p = c) (fun p => slotPts c p fullShare f)).symm.trans ?_
  rw [Finset.filter_eq', if_pos (Finset.mem_univ _), bigSep_singleton]

/-- The slots received and the own slot make the whole gather buffer. -/
theorem join_slots (c : Dev nD) (f : Buf (Elt F) ((c : Thread nD τ).loc cc0_scratch0)) :
    iprop(bigSep Finset.univ (fun p : Dev nD => if p = c then iprop(emp) else slotPts c p fullShare f) ∗ slotPts c c fullShare f) ⊢ gathPts c f := by
  rw [← own_slot c f, gath_slots, ← bigSep_sep']
  refine bigSep_mono fun p _ => ?_
  by_cases h : p = c
  · rw [if_pos h, if_pos h]; exact (Laws.emp_sep (P := slotPts c p fullShare f)).1
  · rw [if_neg h, if_neg h]; exact (Laws.sep_emp (P := slotPts c p fullShare f)).1

/-! ## The memory operations -/

section Mem

/-- The zero offset. -/
theorem hz : (![0, 0] : Fin 2 → ℕ) = fun _ => 0 := funext fun a => by fin_cases a <;> rfl

variable (c : Dev nD)

/-- A finished program needs its postcondition. -/
theorem ret_step {α : Type} {Q : α → sProp 𝕄} (a : α) : Q a ⊢ wp frame (wpE (defs₀ (F := F)) 𝒱₀ (c : Thread nD τ) none) Set.univ (.ret a) Q := by
  rw [wp_ret]; iintro H; imodintro; iexact H

/-- A sequence is run part by part. -/
theorem bind_step {α : Type} {Q : α → sProp 𝕄} {β : Type} (p : Prog (TpuEff nD τ sig (Elt F) Λ₀ .tc) β) (k : β → Prog (TpuEff nD τ sig (Elt F) Λ₀ .tc) α) :
    wp frame (wpE (defs₀ (F := F)) 𝒱₀ (c : Thread nD τ) none) Set.univ p (fun b => wp frame (wpE (defs₀ (F := F)) 𝒱₀ (c : Thread nD τ) none) Set.univ (k b) Q) ⊢ wp frame (wpE (defs₀ (F := F)) 𝒱₀ (c : Thread nD τ) none) Set.univ (p >>= k) Q := by
  rw [wp_bind]

/-- The load of the own chunk. -/
theorem chunk_load {α : Type} {Q : α → sProp 𝕄} {hl} {k : Vec F S256x256 .f32 → Prog (TpuEff nD τ sig (Elt F) Λ₀ .tc) α} :
    (((c : Thread nD τ).loc cc0_stg0_0) ↦{fullShare} (xstg m ρ c))
      ⊢ iprop(((((c : Thread nD τ).loc cc0_stg0_0) ↦{fullShare} (xstg m ρ c)) -∗ wp frame (wpE (defs₀ (F := F)) 𝒱₀ (c : Thread nD τ) none) Set.univ (k (chunk m ρ c)) Q)
        -∗ wp frame (wpE (defs₀ (F := F)) 𝒱₀ (c : Thread nD τ) none) Set.univ (.op (.load xM (Rect.unit (s := S256x1024) (k0_off1 c) S256x256.size (k0_off1_inb c)).toLoadRect hl) k) Q) :=
  wp_load 𝒱₀ (c : Thread nD τ) none Set.univ (m := xM) (Finset.subset_univ _)

/-- A load of the own slot whose value is not used further. -/
theorem own_load {α : Type} {Q : α → sProp 𝕄} {o : Fin 3 → ℕ} (ho : o = ![c.val, 0, 0]) {hi : ∀ a, o a + S1x256x8.size a ≤ S8x256x8.size a}
    {hl : gM.view.LoadsAt (Rect.unit (s := S8x256x8) o S1x256x8.size hi).toLoadRect}
    {f : Buf (Elt F) ((c : Thread nD τ).loc cc0_scratch0)} {J : Prog (TpuEff nD τ sig (Elt F) Λ₀ .tc) α} :
    slotPts c c fullShare f
      ⊢ iprop((slotPts c c fullShare f -∗ wp frame (wpE (defs₀ (F := F)) 𝒱₀ (c : Thread nD τ) none) Set.univ J Q)
        -∗ wp frame (wpE (defs₀ (F := F)) 𝒱₀ (c : Thread nD τ) none) Set.univ (.op (.load gM (Rect.unit (s := S8x256x8) o S1x256x8.size hi).toLoadRect hl) fun _ => J) Q) := by
  unfold slotPts
  have hS : (gM.access (Rect.unit (s := S8x256x8) o S1x256x8.size hi)).set ⊆ (slotM c).view.set := by rw [access_set c ho]
  exact wp_load_rect 𝒱₀ (c : Thread nD τ) none Set.univ (Q := Q) (m := gM) (r := Rect.unit (s := S8x256x8) o S1x256x8.size hi) (k := fun _ => J) (hl := hl) (q := fullShare) (f := f) hS

/-- The store of the own candidates into the own slot. -/
theorem own_store {α : Type} {Q : α → sProp 𝕄} {o : Fin 3 → ℕ} (ho : o = ![c.val, 0, 0]) {hi : ∀ a, o a + S1x256x8.size a ≤ S8x256x8.size a}
    {hx : (gM.access (Rect.unit (s := S8x256x8) o S1x256x8.size hi)).Stores Finset.univ}
    {hm : (Finset.univ : Finset (Rect.unit (s := S8x256x8) o S1x256x8.size hi).shape.Idx) = Finset.univ ∨ ∀ a, (Rect.unit (s := S8x256x8) o S1x256x8.size hi).stride a = 1}
    {f : Buf (Elt F) ((c : Thread nD τ).loc cc0_scratch0)} {k : PUnit → Prog (TpuEff nD τ sig (Elt F) Λ₀ .tc) α} :
    slotPts c c fullShare f
      ⊢ iprop((slotPts c c fullShare (landed m ρ) -∗ wp frame (wpE (defs₀ (F := F)) 𝒱₀ (c : Thread nD τ) none) Set.univ (k ⟨⟩) Q)
        -∗ wp frame (wpE (defs₀ (F := F)) 𝒱₀ (c : Thread nD τ) none) Set.univ (.op (.store gM (Rect.unit (s := S8x256x8) o S1x256x8.size hi) (cand m ρ c) Finset.univ hx hm) k) Q) := by
  rw [← store_landed m ρ c ho (hi := hi) f]
  unfold slotPts
  have hS : (gM.access (Rect.unit (s := S8x256x8) o S1x256x8.size hi)).setOn Finset.univ ⊆ (slotM c).view.set := by rw [View.setOn_univ, access_set c ho]
  exact wp_store 𝒱₀ (c : Thread nD τ) none Set.univ (Q := Q) (m := gM) (r := Rect.unit (s := S8x256x8) o S1x256x8.size hi) (w := cand m ρ c) (Mk := Finset.univ) (hx := hx) (hm := hm)
    (k := k) (f := f) hS

/-- The load of slot `d` when the whole buffer is as `landed` says. -/
theorem gath_load {α : Type} {Q : α → sProp 𝕄} (d : Dev nD) {o : Fin 3 → ℕ} (ho : o = ![d.val, 0, 0]) {hi : ∀ a, o a + S1x256x8.size a ≤ S8x256x8.size a}
    {hl : gM.view.LoadsAt (Rect.unit (s := S8x256x8) o S1x256x8.size hi).toLoadRect}
    {k : Vec F S1x256x8 .f32 → Prog (TpuEff nD τ sig (Elt F) Λ₀ .tc) α} :
    gathPts c (landed m ρ)
      ⊢ iprop((gathPts c (landed m ρ) -∗ wp frame (wpE (defs₀ (F := F)) 𝒱₀ (c : Thread nD τ) none) Set.univ (k (cand m ρ d)) Q)
        -∗ wp frame (wpE (defs₀ (F := F)) 𝒱₀ (c : Thread nD τ) none) Set.univ (.op (.load gM (Rect.unit (s := S8x256x8) o S1x256x8.size hi).toLoadRect hl) k) Q) := by
  rw [← read_landed m ρ d ho (hi := hi)]
  unfold gathPts
  exact wp_load_rect 𝒱₀ (c : Thread nD τ) none Set.univ (Q := Q) (m := gM) (r := Rect.unit (s := S8x256x8) o S1x256x8.size hi) (k := k) (hl := hl) (q := fullShare) (S := Finset.univ) (f := landed m ρ) (Finset.subset_univ _)

/-- The load of the result buffer whose value is not used further. -/
theorem out_load {α : Type} {Q : α → sProp 𝕄} {hl} {f : Buf (Elt F) ((c : Thread nD τ).loc cc0_stg1_0)} {J : Prog (TpuEff nD τ sig (Elt F) Λ₀ .tc) α} :
    (((c : Thread nD τ).loc cc0_stg1_0) ↦{fullShare} f)
      ⊢ iprop(((((c : Thread nD τ).loc cc0_stg1_0) ↦{fullShare} f) -∗ wp frame (wpE (defs₀ (F := F)) 𝒱₀ (c : Thread nD τ) none) Set.univ J Q)
        -∗ wp frame (wpE (defs₀ (F := F)) 𝒱₀ (c : Thread nD τ) none) Set.univ (.op (.load oM (Rect.unit (s := S256x8) ![0, 0] S256x8.size inb_S256x8_S256x8_0_0).toLoadRect hl) fun _ => J) Q) :=
  wp_load 𝒱₀ (c : Thread nD τ) none Set.univ (Q := Q) (m := oM) (r := (Rect.unit (s := S256x8) ![0, 0] S256x8.size inb_S256x8_S256x8_0_0).toLoadRect) (hl := hl) (k := fun _ => J) (q := fullShare) (f := f) (S := Finset.univ) (Finset.subset_univ _)
/-- The store of the whole result. -/
theorem out_store {α : Type} {Q : α → sProp 𝕄} {hx hm} {f : Buf (Elt F) ((c : Thread nD τ).loc cc0_stg1_0)} {w : FVec F S256x8 .f32} {k : PUnit → Prog (TpuEff nD τ sig (Elt F) Λ₀ .tc) α} :
    (((c : Thread nD τ).loc cc0_stg1_0) ↦{fullShare} f)
      ⊢ iprop(((((c : Thread nD τ).loc cc0_stg1_0) ↦{fullShare} w) -∗ wp frame (wpE (defs₀ (F := F)) 𝒱₀ (c : Thread nD τ) none) Set.univ (k ⟨⟩) Q)
        -∗ wp frame (wpE (defs₀ (F := F)) 𝒱₀ (c : Thread nD τ) none) Set.univ (.op (.store oM (Rect.unit (s := S256x8) ![0, 0] S256x8.size inb_S256x8_S256x8_0_0) w Finset.univ hx hm) k) Q) := by
  have e : (oM.access (Rect.unit (s := S256x8) ![0, 0] S256x8.size inb_S256x8_S256x8_0_0)).write (Elt F) f w Finset.univ = w :=
    Memref.write_access_unit_zero_univ (Elt F) cc0_stg1_0 hz _ f w
  have key : ∀ w' : (cc0_stg1_0 : Ref sig .tc).ty.Contents (Elt F),
      (oM.access (Rect.unit (s := S256x8) ![0, 0] S256x8.size inb_S256x8_S256x8_0_0)).write (Elt F) f w Finset.univ = w' →
      ((((c : Thread nD τ).loc cc0_stg1_0) ↦{fullShare} f)
        ⊢ iprop(((((c : Thread nD τ).loc cc0_stg1_0) ↦{fullShare} w') -∗ wp frame (wpE (defs₀ (F := F)) 𝒱₀ (c : Thread nD τ) none) Set.univ (k ⟨⟩) Q)
          -∗ wp frame (wpE (defs₀ (F := F)) 𝒱₀ (c : Thread nD τ) none) Set.univ (.op (.store oM (Rect.unit (s := S256x8) ![0, 0] S256x8.size inb_S256x8_S256x8_0_0) w Finset.univ hx hm) k) Q)) := by
    rintro _ rfl
    exact wp_store 𝒱₀ (c : Thread nD τ) none Set.univ (Q := Q) (m := oM) (r := Rect.unit (s := S256x8) ![0, 0] S256x8.size inb_S256x8_S256x8_0_0)
      (w := w) (Mk := Finset.univ) (hx := hx) (hm := hm) (k := k) (f := f) (S := Finset.univ) (Finset.subset_univ _)
  exact key w e

end Mem

end Cert.TopK

end
-- ==== Proof.Body.lean ====
/-
# The body, at a symbolic device

The kernel body of device `c` from what the launch deals it to what it hands back: eight guarded signals, the candidates,
the barrier, eight guarded copies, eight guarded receive waits, eight guarded send waits, the merge.
-/
module

public import proofs.«01_k».proof.Proof.Slots
public import proofs.«01_k».proof.Proof.Gen.KernelIdeal.Points

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body -/

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Sound
variable (K : Dev nD × CI → ℕ) (c : Dev nD)

/-- What the body of device `c` starts from. -/
def bodyPre : sProp 𝕄 :=
  iprop((records m ρ K ∗ linear c ∗ credits c ∗ levAts L lv ∗ ∃ f, gathPts c f)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- What the body of device `c` hands back: the gather buffer filled, no debt left, the input as staged, the result written. -/
def bodyPost : sProp 𝕄 :=
  iprop(Φ₁ m ρ c ∗ (dats m ρ 0 c).owesAt () t0_0.succ ∗ stg c cc0_stg0_0 (xstg m ρ c) ∗ stg c cc0_stg1_0 (outAt m ρ))

set_option maxHeartbeats 4000000 in
set_option maxRecDepth 65536 in
/-- The body from what the launch deals to what it hands back. -/
theorem sound_body (Kt : PUnit → sProp 𝕄) :
    iprop(bodyPre m ρ K c ∗ (bodyPost m ρ c -∗ Kt ⟨⟩))
      ⊢ wp frame (wpE (defs₀ (F := F)) 𝒱₀ (c : Thread nD τ) none) Set.univ
          (cc0_body xM (Memref.isWhole_whole _) oM (Memref.isWhole_whole _) gM (Memref.isWhole_whole _) cc0_scratch1 cc0_scratch2) Kt := by
  rw [cc0_body_eq_skeleton]; unfold cc0_body_skel
  rw [k0_part1_eq_skeleton, k0_part2_eq_skeleton, k0_part3_eq_skeleton, k0_part4_eq_skeleton, k0_part5_eq_skeleton,
    k0_part6_eq_skeleton, k0_part7_eq_skeleton]
  unfold bodyPre linear credits
  iintro ⟨⟨⟨#HR, ⟨HaB, HaS, HaV, HtB, HtV, HtS⟩, ⟨HcB, HcV⟩, #Hlev, ⟨%f0, Hg⟩⟩, Ho, ⟨%d0, %g0, %hg0, Hx⟩, ⟨%d1, %g1, %hg1, Hout⟩⟩, Hk⟩
  have hx : g0 = xstg m ρ c := by rw [hg0]; unfold Dat.before; rw [if_pos (fetch0_0 t0_0)]; rfl
  subst hx
  unfold Dat.owesAt Pipeline.owesWithin
  icases Ho with ⟨%W, %hW, Ho⟩
  rw [show (dats m ρ 0 c).owed t0_0.castSucc = O₀ c from rfl]
  ihave HO : (ow c (O₀ c) : sProp 𝕄) $$ [Ho]
  · unfold ow; iexists W; iexact Ho
  rw [show O₀ c = O₁ c + oweBar c 7 + oweBar c 6 + oweBar c 5 + oweBar c 4 + oweBar c 3 + oweBar c 2 + oweBar c 1 + oweBar c 0 from rfl]
  ihave Hg := (Entails.of_eq ((gath_slots c f0).trans (bigSep_dev _))) $$ Hg
  ihave HtB := (Entails.of_eq (bigSep_dev _)) $$ HtB
  icases Hg with ⟨Hg0, Hg1, Hg2, Hg3, Hg4, Hg5, Hg6, Hg7⟩
  icases HtB with ⟨HtB0, HtB1, HtB2, HtB3, HtB4, HtB5, HtB6, HtB7⟩
  rw [wp_bind]
  unfold k0_part1_skel
  rw [Prog.lift, Prog.bind_op, wp_deviceId]
  -- the signals
  iapply (sig_step m ρ K c 0 (cond1 c) (fun _ => rfl) _ f0) $$ HR HO HtB0 Hg0
  iintro ⟨HO, Hg0⟩
  iapply (sig_step m ρ K c 1 (cond2 c) (fun _ => rfl) _ f0) $$ HR HO HtB1 Hg1
  iintro ⟨HO, Hg1⟩
  iapply (sig_step m ρ K c 2 (cond3 c) (fun _ => rfl) _ f0) $$ HR HO HtB2 Hg2
  iintro ⟨HO, Hg2⟩
  iapply (sig_step m ρ K c 3 (cond4 c) (fun _ => rfl) _ f0) $$ HR HO HtB3 Hg3
  iintro ⟨HO, Hg3⟩
  iapply (sig_step m ρ K c 4 (cond5 c) (fun _ => rfl) _ f0) $$ HR HO HtB4 Hg4
  iintro ⟨HO, Hg4⟩
  iapply (sig_step m ρ K c 5 (cond6 c) (fun _ => rfl) _ f0) $$ HR HO HtB5 Hg5
  iintro ⟨HO, Hg5⟩
  iapply (ret_step c)
  iapply (bind_step c)
  unfold k0_part2_skel
  iapply (sig_step m ρ K c 6 (cond7 c) (fun _ => rfl) _ f0) $$ HR HO HtB6 Hg6
  iintro ⟨HO, Hg6⟩
  iapply (sig_step m ρ K c 7 (cond8 c) (fun _ => rfl) _ f0) $$ HR HO HtB7 Hg7
  iintro ⟨HO, Hg7⟩
  iapply (chunk_load m ρ c) $$ Hx; iintro Hx
  iapply (ret_step c)
  iapply (bind_step c)
  unfold k0_part3_skel
  -- the own slot: the candidates stored
  ihave Hown := (gather_dev (fun p => if p = c then slotPts c p fullShare f0 else iprop(emp))) $$ Hg0 Hg1 Hg2 Hg3 Hg4 Hg5 Hg6 Hg7
  ihave Hown := (Entails.of_eq (own_slot c f0)) $$ Hown
  iapply (own_load c (off2_eq c)) $$ Hown; iintro Hown
  iapply (own_store m ρ c (off2_eq c)) $$ Hown; iintro Hown
  -- the barrier
  iapply (barrier_step m ρ K c) $$ HR Hlev HO HaB HcB
  iintro ⟨HO, HzB, Hd⟩
  ihave Hd := (Entails.of_eq (bigSep_dev _)) $$ Hd
  icases Hd with ⟨Hd0, Hd1, Hd2, Hd3, Hd4, Hd5, Hd6, Hd7⟩
  ihave HtV := (Entails.of_eq (bigSep_dev _)) $$ HtV
  icases HtV with ⟨HtV0, HtV1, HtV2, HtV3, HtV4, HtV5, HtV6, HtV7⟩
  ihave HtS := (Entails.of_eq (bigSep_dev _)) $$ HtS
  icases HtS with ⟨HtS0, HtS1, HtS2, HtS3, HtS4, HtS5, HtS6, HtS7⟩
  ihave HaS := (Entails.of_eq (bigSep_dev _)) $$ HaS
  icases HaS with ⟨HaS0, HaS1, HaS2, HaS3, HaS4, HaS5, HaS6, HaS7⟩
  ihave HaV := (Entails.of_eq (bigSep_dev _)) $$ HaV
  icases HaV with ⟨HaV0, HaV1, HaV2, HaV3, HaV4, HaV5, HaV6, HaV7⟩
  ihave HcV := (Entails.of_eq (bigSep_dev _)) $$ HcV
  icases HcV with ⟨HcV0, HcV1, HcV2, HcV3, HcV4, HcV5, HcV6, HcV7⟩
  ihave Hown := (Entails.of_eq ((slot_parts c c (landed m ρ)).trans (bigSep_dev _))) $$ Hown
  icases Hown with ⟨Hs0, Hs1, Hs2, Hs3, Hs4, Hs5, Hs6, Hs7⟩
  rw [show O₁ c = 0 + oweRecv c 7 + oweRecv c 6 + oweRecv c 5 + oweRecv c 4 + oweRecv c 3 + oweRecv c 2 + oweRecv c 1 + oweRecv c 0 from rfl]
  -- the copies
  iapply (send_step_at m ρ K c 0 (cond9 c) _ (show k0_off4 c = ![c.val, 0, 0] from off2_eq c) (show k0_off3 c = ![c.val] from off3_eq c) (show k0_dev9 = 0 from rfl)) $$ HR HO HtS0 HtV0 Hs0 Hd0
  iintro ⟨HO, Hs0⟩
  iapply (send_step_at m ρ K c 1 (cond10 c) _ (show k0_off6 c = ![c.val, 0, 0] from off2_eq c) (show k0_off5 c = ![c.val] from off3_eq c) (show k0_dev10 = 1 from rfl)) $$ HR HO HtS1 HtV1 Hs1 Hd1
  iintro ⟨HO, Hs1⟩
  iapply (send_step_at m ρ K c 2 (cond11 c) _ (show k0_off8 c = ![c.val, 0, 0] from off2_eq c) (show k0_off7 c = ![c.val] from off3_eq c) (show k0_dev11 = 2 from rfl)) $$ HR HO HtS2 HtV2 Hs2 Hd2
  iintro ⟨HO, Hs2⟩
  iapply (send_step_at m ρ K c 3 (cond12 c) _ (show k0_off10 c = ![c.val, 0, 0] from off2_eq c) (show k0_off9 c = ![c.val] from off3_eq c) (show k0_dev12 = 3 from rfl)) $$ HR HO HtS3 HtV3 Hs3 Hd3
  iintro ⟨HO, Hs3⟩
  iapply (ret_step c)
  iapply (bind_step c)
  unfold k0_part4_skel
  iapply (send_step_at m ρ K c 4 (cond13 c) _ (show k0_off12 c = ![c.val, 0, 0] from off2_eq c) (show k0_off11 c = ![c.val] from off3_eq c) (show k0_dev13 = 4 from rfl)) $$ HR HO HtS4 HtV4 Hs4 Hd4
  iintro ⟨HO, Hs4⟩
  iapply (send_step_at m ρ K c 5 (cond14 c) _ (show k0_off14 c = ![c.val, 0, 0] from off2_eq c) (show k0_off13 c = ![c.val] from off3_eq c) (show k0_dev14 = 5 from rfl)) $$ HR HO HtS5 HtV5 Hs5 Hd5
  iintro ⟨HO, Hs5⟩
  iapply (send_step_at m ρ K c 6 (cond15 c) _ (show k0_off16 c = ![c.val, 0, 0] from off2_eq c) (show k0_off15 c = ![c.val] from off3_eq c) (show k0_dev15 = 6 from rfl)) $$ HR HO HtS6 HtV6 Hs6 Hd6
  iintro ⟨HO, Hs6⟩
  iapply (send_step_at m ρ K c 7 (cond16 c) _ (show k0_off18 c = ![c.val, 0, 0] from off2_eq c) (show k0_off17 c = ![c.val] from off3_eq c) (show k0_dev16 = 7 from rfl)) $$ HR HO HtS7 HtV7 Hs7 Hd7
  iintro ⟨HO, Hs7⟩
  -- the receive waits
  iapply (recv_step m ρ K c 0 (guard_recv c 0) (fun _ => rfl)) $$ HR HO HaV0 HcV0
  iintro ⟨HO, HaV0, Hd0⟩
  iapply (recv_step m ρ K c 1 (guard_recv c 1) (fun _ => rfl)) $$ HR HO HaV1 HcV1
  iintro ⟨HO, HaV1, Hd1⟩
  iapply (recv_step m ρ K c 2 (guard_recv c 2) (fun _ => rfl)) $$ HR HO HaV2 HcV2
  iintro ⟨HO, HaV2, Hd2⟩
  iapply (ret_step c)
  iapply (bind_step c)
  unfold k0_part5_skel
  iapply (recv_step m ρ K c 3 (guard_recv c 3) (fun _ => rfl)) $$ HR HO HaV3 HcV3
  iintro ⟨HO, HaV3, Hd3⟩
  iapply (recv_step m ρ K c 4 (guard_recv c 4) (fun _ => rfl)) $$ HR HO HaV4 HcV4
  iintro ⟨HO, HaV4, Hd4⟩
  iapply (recv_step m ρ K c 5 (guard_recv c 5) (fun _ => rfl)) $$ HR HO HaV5 HcV5
  iintro ⟨HO, HaV5, Hd5⟩
  iapply (recv_step m ρ K c 6 (guard_recv c 6) (fun _ => rfl)) $$ HR HO HaV6 HcV6
  iintro ⟨HO, HaV6, Hd6⟩
  iapply (recv_step m ρ K c 7 (guard_recv c 7) (fun _ => rfl)) $$ HR HO HaV7 HcV7
  iintro ⟨HO, HaV7, Hd7⟩
  -- the send waits
  iapply (sendwait_step_at m ρ K c 0 (cond25 c) (show k0_off19 c = ![c.val, 0, 0] from off2_eq c)) $$ HR HO HaS0 Hs0
  iintro ⟨HO, HaS0, Hs0⟩
  iapply (sendwait_step_at m ρ K c 1 (cond26 c) (show k0_off20 c = ![c.val, 0, 0] from off2_eq c)) $$ HR HO HaS1 Hs1
  iintro ⟨HO, HaS1, Hs1⟩
  iapply (ret_step c)
  iapply (bind_step c)
  unfold k0_part6_skel
  iapply (sendwait_step_at m ρ K c 2 (cond27 c) (show k0_off21 c = ![c.val, 0, 0] from off2_eq c)) $$ HR HO HaS2 Hs2
  iintro ⟨HO, HaS2, Hs2⟩
  iapply (sendwait_step_at m ρ K c 3 (cond28 c) (show k0_off22 c = ![c.val, 0, 0] from off2_eq c)) $$ HR HO HaS3 Hs3
  iintro ⟨HO, HaS3, Hs3⟩
  iapply (sendwait_step_at m ρ K c 4 (cond29 c) (show k0_off23 c = ![c.val, 0, 0] from off2_eq c)) $$ HR HO HaS4 Hs4
  iintro ⟨HO, HaS4, Hs4⟩
  iapply (sendwait_step_at m ρ K c 5 (cond30 c) (show k0_off24 c = ![c.val, 0, 0] from off2_eq c)) $$ HR HO HaS5 Hs5
  iintro ⟨HO, HaS5, Hs5⟩
  iapply (sendwait_step_at m ρ K c 6 (cond31 c) (show k0_off25 c = ![c.val, 0, 0] from off2_eq c)) $$ HR HO HaS6 Hs6
  iintro ⟨HO, HaS6, Hs6⟩
  iapply (sendwait_step_at m ρ K c 7 (cond32 c) (show k0_off26 c = ![c.val, 0, 0] from off2_eq c)) $$ HR HO HaS7 Hs7
  iintro ⟨HO, HaS7, Hs7⟩
  -- the whole gather buffer
  ihave Hd := (gather_dev (fun p => if p = c then iprop(emp) else slotPts c p fullShare (landed m ρ))) $$ Hd0 Hd1 Hd2 Hd3 Hd4 Hd5 Hd6 Hd7
  ihave Hown := (gather_dev (fun p => slotPts c c (part p) (landed m ρ))) $$ Hs0 Hs1 Hs2 Hs3 Hs4 Hs5 Hs6 Hs7
  ihave Hown := (Entails.of_eq (slot_parts c c (landed m ρ)).symm) $$ Hown
  ihave Hg : (gathPts c (landed m ρ) : sProp 𝕄) $$ [Hd Hown]
  · iapply (join_slots c (landed m ρ)); isplitl [Hd] <;> iassumption
  -- the merge
  iapply (gath_load m ρ c 0 rfl) $$ Hg; iintro Hg
  iapply (gath_load m ρ c 1 rfl) $$ Hg; iintro Hg
  iapply (gath_load m ρ c 2 rfl) $$ Hg; iintro Hg
  iapply (ret_step c)
  iapply (bind_step c)
  unfold k0_part7_skel
  iapply (gath_load m ρ c 3 rfl) $$ Hg; iintro Hg
  iapply (gath_load m ρ c 4 rfl) $$ Hg; iintro Hg
  iapply (gath_load m ρ c 5 rfl) $$ Hg; iintro Hg
  iapply (gath_load m ρ c 6 rfl) $$ Hg; iintro Hg
  iapply (gath_load m ρ c 7 rfl) $$ Hg; iintro Hg
  iapply (ret_step c)
  iapply (out_load c) $$ Hout; iintro Hout
  iapply (out_store c) $$ Hout; iintro Hout
  iapply (ret_step c)
  iapply Hk
  unfold bodyPost Φ₁ zeros
  isplitl [Hg HzB HaS0 HaS1 HaS2 HaS3 HaS4 HaS5 HaS6 HaS7 HaV0 HaV1 HaV2 HaV3 HaV4 HaV5 HaV6 HaV7]
  · isplitl [Hg]; · iexact Hg
    isplitl [HzB]; · iexact HzB
    isplitl [HaS0 HaS1 HaS2 HaS3 HaS4 HaS5 HaS6 HaS7]
    · iapply (gather_dev (fun p => semVal (sendCell c p) 0)) $$ HaS0 HaS1 HaS2 HaS3 HaS4 HaS5 HaS6 HaS7
    iapply (gather_dev (fun p => semVal (recvCell c p) 0)) $$ HaV0 HaV1 HaV2 HaV3 HaV4 HaV5 HaV6 HaV7
  isplitl [HO]
  · unfold ow Dat.owesAt Pipeline.owesWithin
    icases HO with ⟨%W', HO⟩
    iexists W'
    isplitr; · ipureintro; exact fun _ _ => Or.inl trivial
    iexact HO
  isplitl [Hx]
  · iexists _
    isplitr; · ipureintro; rfl
    iexact Hx
  iexists _
  isplitr; · ipureintro; rfl
  iexact Hout

end Sound

end Cert.TopK

end
-- ==== Proof.Run.lean ====
/-
# The launch of the eight devices

What the launch deals each device, how the counters' invariants are set up for the whole mesh at once, and the run of
`@main` for any float values: every execution terminates, the input is untouched, every counter is zero and each device's
result array holds what the protocol says.
-/
module

public import proofs.«01_k».proof.Proof.Body
public import proofs.«01_k».proof.Proof.Gen.KernelIdeal.Launch
public import Idealize.ShloMosaic.Lib.Pipeline.CollectiveSegs

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 8000

/-! ## The body obligation -/

/-- What the launch gives the body of device `c`. -/
def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- The body obligation of the launch, on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body xM (Memref.isWhole_whole _) oM (Memref.isWhole_whole _) gM (Memref.isWhole_whole _) cc0_scratch1 cc0_scratch2) (fun _ => bodyPost m ρ c)
  unfold bodyPre' Φ₀ start
  iintro ⟨⟨⟨⟨%K, HR, Hlin⟩, Hcr, Hlev⟩, Hscr⟩, Ho, Hx, Hout⟩
  iapply (sound_body m ρ K c fun _ => bodyPost m ρ c)
  unfold bodyPre
  isplitr []
  · isplitl [HR Hlin Hcr Hlev Hscr]
    · isplitl [HR]; · iexact HR
      isplitl [Hlin]; · iexact Hlin
      isplitl [Hcr]; · iexact Hcr
      isplitl [Hlev]; · iexact Hlev
      iexact Hscr
    isplitl [Ho]; · iexact Ho
    isplitl [Hx] <;> iassumption
  · iintro H; iexact H

/-! ## What the launch deals -/

/-- The send and receive counters are the kernel's own, each once. -/
theorem ownSemFacts : Pipeline.OwnSemFacts cfg0.spec osem := by decide

/-- Every array is owned in full. -/
theorem share_eq (c : Dev nD) (w : Fin cfg0.W) : (dats m ρ 0 c).share w = fullShare := by unfold Dat.share; split <;> rfl

/-- The counters of one device are told apart by their indices. -/
theorem csem_injective : Function.Injective csem := by
  rintro (u | p | p) (v | q | q) h
  · rfl
  · cases h
  · cases h
  · cases h
  · exact congrArg (fun x : Dev nD => (Sum.inr (Sum.inl x) : CI)) (sendQ_inj (SemLoc.dma.inj h))
  · exact absurd (SemLoc.dma.inj h) sendQ_ne_recvQ
  · cases h
  · exact absurd (SemLoc.dma.inj h).symm sendQ_ne_recvQ
  · exact congrArg (fun x : Dev nD => (Sum.inr (Sum.inr x) : CI)) (recvQ_inj (SemLoc.dma.inj h))

/-- The counters of the mesh are told apart by device and index. -/
theorem kcell_injective : Function.Injective kcell := by
  rintro ⟨c, k⟩ ⟨c', k'⟩ h
  have h1 : c = c' := Fin.ext (congrArg (fun g : GSem nD τ sig => g.1.1.val) h)
  have h2 : k = k' := csem_injective (congrArg Prod.snd h)
  rw [h1, h2]

/-- All the counters of the exchange. -/
def cellsOf : Finset (GSem nD τ sig) := Finset.univ.map ⟨kcell, kcell_injective⟩

/-- The duty tokens minted for a device's own cells: the barrier's, one per peer; one for each send and receive counter. -/
abbrev tokOf (cj : Dev nD × (Dev nD ⊕ (Dev nD ⊕ Dev nD))) : GSem nD τ sig × ℕ × Dev nD := match cj.2 with
  | .inl p => (barCell cj.1, 0, p) | .inr (.inl p) => (sendCell cj.1 p, 0, p) | .inr (.inr p) => (recvCell cj.1 p, 0, p)

/-- The duty tokens are told apart by device and index. -/
theorem tokOf_injective : Function.Injective tokOf := by
  rintro ⟨c, j⟩ ⟨c', j'⟩ h
  have h1 : c = c' := by
    have := congrArg (fun x : GSem nD τ sig × ℕ × Dev nD => x.1.1.1.val) h
    rcases j with p | p | p <;> rcases j' with q | q | q <;> exact Fin.ext this
  subst h1
  have h2 := congrArg (fun x : GSem nD τ sig × ℕ × Dev nD => x.2.2) h
  have h3 := congrArg (fun x : GSem nD τ sig × ℕ × Dev nD => x.1.2) h
  rcases j with p | p | p <;> rcases j' with q | q | q
  · have h2 : p = q := h2
    rw [h2]
  · cases h3
  · cases h3
  · cases h3
  · have h2 : p = q := h2
    rw [h2]
  · exact absurd (SemLoc.dma.inj h3) sendQ_ne_recvQ
  · cases h3
  · exact absurd (SemLoc.dma.inj h3).symm sendQ_ne_recvQ
  · have h2 : p = q := h2
    rw [h2]

/-- All the duty tokens of the exchange. -/
def toksOf : Finset (GSem nD τ sig × ℕ × Dev nD) := Finset.univ.map ⟨tokOf, tokOf_injective⟩

/-- The ghost state at launch. -/
def u₀ : UU :=
  (initOf (Pipeline.cells cfgs cellOf_inj) (Pipeline.launchToks cfgs cellOf_inj), initOf cellsOf toksOf)

/-- The duty tokens of device `c`'s own cells. -/
def toks (c : Dev nD) : sProp 𝕄 :=
  iprop((bigSep Finset.univ fun p : Dev nD => dutyTok ER (barCell c) 0 p)
    ∗ (bigSep Finset.univ fun p : Dev nD => dutyTok ER (sendCell c p) 0 p)
    ∗ (bigSep Finset.univ fun p : Dev nD => dutyTok ER (recvCell c p) 0 p))

/-- What the launch element deals device `c`. -/
def G (c : Dev nD) : sProp 𝕄 :=
  iprop((bigSep Finset.univ fun k : CI => roundState ER (sched m ρ) (kcell (c, k)) 0)
    ∗ (bigSep Finset.univ fun k : CI => iprop(atPos ER (kcell (c, k)) 0 ∅ 0 ∗ reached ER (kcell (c, k)) 0)) ∗ toks c)

/-- What the step over the whole mesh makes of it. -/
def G' (c : Dev nD) : sProp 𝕄 := iprop(∃ K, records m ρ K ∗ linear c)

/-- The exchange's ghost state at launch deals every device its part. -/
theorem fund_mesh : BI.own (ER (initOf cellsOf toksOf)) ⊢ (|==> bigSep Finset.univ (G m ρ) : sProp 𝕄) := by
  have hX (Φ : GSem nD τ sig → sProp 𝕄) : bigSep cellsOf Φ = bigSep Finset.univ fun c : Dev nD => bigSep Finset.univ fun k : CI => Φ (kcell (c, k)) := by
    unfold cellsOf; rw [bigSep_map, bigSep_univ_prod]; rfl
  have hT : bigSep toksOf (fun x => (dutyTok ER x.1 x.2.1 x.2.2 : sProp 𝕄)) = bigSep Finset.univ fun c : Dev nD => toks c := by
    unfold toksOf; rw [bigSep_map, bigSep_univ_prod]
    exact bigSep_congr fun c _ => by unfold toks; rw [bigSep_univ_sum, bigSep_univ_sum]; rfl
  iintro HX
  imod (Rounds.fund ER (sched m ρ) cellsOf toksOf) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier counter is the launch's one unscoped counter. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The send and receive counters are the kernel's own. -/
theorem ownSems0_eq (c : Dev nD) : (Pipeline.ownSems0 (Ix := Unit) (Name := ℕ) (U := UU) (Lvl := ℕ) (Val := Elt F) (τ := τ) osem c : sProp 𝕄)
    = iprop((bigSep Finset.univ fun p : Dev nD => semVal (sendCell c p) 0) ∗ bigSep Finset.univ fun p : Dev nD => semVal (recvCell c p) 0) := by
  unfold Pipeline.ownSems0; rw [bigSep_univ_sum]; rfl

/-- A family over a device's counters is its barrier member, its send members and its receive members. -/
theorem bigSep_CI (Φ : CI → sProp 𝕄) : bigSep Finset.univ Φ
    = iprop(Φ (.inl ()) ∗ (bigSep Finset.univ fun p : Dev nD => Φ (.inr (.inl p))) ∗ bigSep Finset.univ fun p : Dev nD => Φ (.inr (.inr p))) := by
  rw [bigSep_univ_sum, bigSep_univ_sum, bigSep_univ_of_subsingleton ()]; rfl

/-- The counters at zero, as the exchange indexes them. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  iintro ⟨⟨HS, HV⟩, HB⟩
  isplitl [HB]; · iexact HB
  isplitl [HS] <;> iassumption

/-- On one device, the counters at zero and the round states become invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (sched m ρ) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (sched m ρ) (kcell (c, k)) 0)
      ⊢ (|={Set.univ}=> bigSep Finset.univ fun k : CI => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens device `c` pays with: its own on every barrier, its own on every receive counter named after it, and
    its send counters'. -/
def payToks (c : Dev nD) : sProp 𝕄 :=
  iprop((bigSep Finset.univ fun p : Dev nD => dutyTok ER (barCell p) 0 c)
    ∗ (bigSep Finset.univ fun p : Dev nD => dutyTok ER (recvCell p c) 0 c)
    ∗ (bigSep Finset.univ fun p : Dev nD => dutyTok ER (sendCell c p) 0 p))

/-- The tokens handed from the cells' owners to the devices that pay. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_comm (fun c p : Dev nD => (dutyTok ER (barCell c) 0 p : sProp 𝕄)),
    bigSep_univ_comm (fun c p : Dev nD => (dutyTok ER (recvCell c p) 0 p : sProp 𝕄))]
  iintro ⟨H1, H2, H3⟩
  isplitl [H1]; · iexact H1
  isplitl [H3]; · iexact H3
  iexact H2

/-- Something that may be used again and again may be used at every member of a family. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Positions and tokens together are what a device holds besides the records. -/
theorem linear_intro (c : Dev nD) :
    iprop((bigSep Finset.univ fun k : CI => (atPos ER (kcell (c, k)) 0 ∅ 0 : sProp 𝕄)) ∗ payToks c) ⊢ linear c := by
  unfold payToks linear
  rw [bigSep_CI]
  iintro ⟨⟨H1, H2, H3⟩, H4, H5, H6⟩
  isplitl [H1]; · iexact H1
  isplitl [H2]; · iexact H2
  isplitl [H3]; · iexact H3
  isplitl [H4]; · iexact H4
  isplitl [H5] <;> iassumption

/-- The invariants of all devices are collected into the records, the tokens handed to the devices that pay. -/
theorem regroup :
    (bigSep Finset.univ fun c : Dev nD => iprop((bigSep Finset.univ fun k : CI => iprop(∃ κ : ℕ, cellInv ER (sched m ρ) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (sched m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched m ρ) κ (kcell ck) : sProp 𝕄))) $$ HI
  icases HK with ⟨%K, #HI⟩
  ihave Htk := (toks_across (F := F)) $$ Htok
  iapply (bigSep_beside (R := records m ρ K) (Φ := linear) fun c _ => show iprop(records m ρ K ∗ linear c) ⊢ G' m ρ c from by
    unfold G'; iintro ⟨H1, H2⟩; iexists K; isplitl [H1] <;> iassumption)
  isplitr
  · unfold records; isplitl; · iexact HI
    iexact HR
  · iapply ((Entails.of_eq (bigSep_sep' Finset.univ (fun c : Dev nD => bigSep Finset.univ fun k : CI => (atPos ER (kcell (c, k)) 0 ∅ 0 : sProp 𝕄)) payToks).symm).trans
      (bigSep_mono fun c _ => linear_intro c))
    isplitl [Hat]; · iexact Hat
    iexact Htk

/-- The step over the whole mesh: every device's counters at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- A sum along the list of devices is the sum over the devices. -/
theorem sum_devs (g : Dev nD → ℕ) : (devs.map g).sum = ∑ p, g p := by
  rw [Fin.sum_univ_eight]; unfold devs; simp only [List.map_cons, List.map_nil, List.sum_cons, List.sum_nil]; omega

/-- What device `d` owes a counter at launch. -/
theorem owed_apply (d : Dev nD) (x : GSem nD τ sig) :
    O₀ d x () = (∑ p, if p ≠ d ∧ x = recvCell p d then N else 0) + ∑ p, if p ≠ d ∧ x = barCell p then 1 else 0 := by
  unfold O₀ O₁
  rw [owing_apply, owing_apply, sum_devs, sum_devs, Pi.zero_apply, Finsupp.zero_apply, Nat.zero_add]
  simp only [oweBar_apply, oweRecv_apply]

/-- Every device owes every peer's barrier one unit. -/
theorem owed_bar (d c : Dev nD) : O₀ d (barCell c) () = if c ≠ d then 1 else 0 := by
  rw [owed_apply, Finset.sum_eq_zero (fun p _ => if_neg fun h => bar_ne_recv h.2), Nat.zero_add, Finset.sum_eq_single c]
  · by_cases h : c = d
    · rw [if_neg (fun h' => h'.1 h), if_neg (not_not.mpr h)]
    · rw [if_pos ⟨h, rfl⟩, if_pos h]
  · exact fun p _ hp => if_neg fun h => hp (bar_eq_iff.mp h.2).symm
  · exact fun h => absurd (Finset.mem_univ c) h

/-- Device `p` alone owes receive counter `p` of a peer, one copy. -/
theorem owed_recv (d c p : Dev nD) : O₀ d (recvCell c p) () = if d = p then (if c ≠ p then N else 0) else 0 := by
  rw [owed_apply, Finset.sum_eq_zero (f := fun q => if q ≠ d ∧ recvCell c p = barCell q then 1 else 0) (fun q _ => if_neg fun h => bar_ne_recv h.2.symm), Nat.add_zero,
    Finset.sum_eq_single c]
  · by_cases h : d = p
    · subst h
      rw [if_pos rfl]
      by_cases h' : c = d
      · rw [if_neg (fun h'' => h''.1 h'), if_neg (not_not.mpr h')]
      · rw [if_pos ⟨h', rfl⟩, if_pos h']
    · rw [if_neg h, if_neg fun h' => h (recv_eq_iff.mp h'.2).2.symm]
  · exact fun q _ hq => if_neg fun h => hq (recv_eq_iff.mp h.2).1.symm
  · exact fun h => absurd (Finset.mem_univ c) h

/-- The credit of a barrier at launch is seven units. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

/-- The credit of a peer's receive counter at launch is one copy. -/
theorem launch_recv (c p : Dev nD) (h : p ≠ c) :
    tallyOn (recvCell c p) (launchCredit (Pipeline.owing O₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c p, Finset.sum_ite_eq' Finset.univ p,
    if_pos (Finset.mem_univ _), if_pos h.symm]

/-- Receive counters are told apart by their indices, as places. -/
theorem recvLoc_injective : Function.Injective fun p : Dev nD => (SemLoc.dma (recvQ p) : SemLoc sig) :=
  fun _ _ h => recvQ_inj (SemLoc.dma.inj h)

/-- The launch credit of device `c`'s cells: seven units on the barrier, one copy on each peer's receive counter. -/
theorem creds (c : Dev nD) : (Pipeline.launchCred O₀ c : sProp 𝕄) ⊢ credits c := by
  unfold Pipeline.launchCred credits
  rw [bigSep_univ_at _ (SemLoc.reg barS), launch_bar]
  refine sep_mono_right ?_
  refine (bigSep_subset (t := Finset.univ.map ⟨_, recvLoc_injective⟩) ?_).trans ?_
  · intro x hx
    obtain ⟨p, -, rfl⟩ := Finset.mem_map.mp hx
    exact Finset.mem_erase.mpr ⟨fun h => (by cases h), Finset.mem_univ _⟩
  · rw [bigSep_map]
    refine bigSep_mono fun p _ => ?_
    show cred (tallyOn (recvCell c p) (launchCredit (Pipeline.owing O₀) 0 (recvCell c p))) ⊢ _
    by_cases h : p = c
    · rw [if_pos h]; iintro -; iempintro
    · rw [if_neg h, launch_recv c p h]

/-! ## The launch's side conditions -/

/-- What the launch deals makes the body's start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- With the gather buffer it makes what the body is given. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; unfold gathPts; iexact Hr

/-- What the body leaves returns the counters at zero and the gather buffer. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ zeros gathPts
  iintro ⟨Hr, HzB, HzS, HzV⟩
  isplitl [HzB]; · iexact HzB
  isplitl [HzS HzV]
  · isplitl [HzS] <;> iassumption
  iexists (landed m ρ); iexact Hr

/-- The staging waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Every array's contents after the run. -/
def finalA (c : Dev nD) (w : Fin cfg0.W) : Buf (Elt F) ((cfg0.win w).arr.view.loc (c : Thread nD τ)) := (dats m ρ 0 c).arrAt w cfg0.N

/-- Every array is at its final contents on every device. -/
def QC : PUnit × MemSt nD τ sig (Elt F) → Prop := fun r =>
  ∀ c : Dev nD, ∀ w : Fin cfg0.W, r.2.mem ((cfg0.win w).arr.view.loc (c : Thread nD τ)) = finalA m ρ c w

/-- For any float values, from any memory with zero counters: every weakly fair execution of `@main` on the eight
    devices terminates, and every final state has each array at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_mesh m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.TopK

end
-- ==== Proof.Ranks.lean ====
/- The mathematics of taking the greatest values of a finite family one after the other: no program and no float here.
   `rank f i` is the `i`-th greatest DISTINCT value of `f`, or -∞ past the last. The lists of a family's parts, merged,
   have the ranks of the family; a family listed in descending order has its ranks as long as the list strictly falls. -/
module

public import Mathlib.Data.EReal.Basic
public import Mathlib.Data.Finset.Lattice.Fold
public import Mathlib.Data.Fintype.Prod
public import Mathlib.Order.Fin.Basic

@[expose] public section

noncomputable section

namespace Cert.TopK

variable {ι κ δ : Type} [Fintype ι] [Fintype κ] [Fintype δ]

/-- The greatest value of a family, -∞ of an empty one. -/
def peak (f : ι → EReal) : EReal := Finset.univ.sup f

/-- The family with every value that is not below `t` replaced by -∞. -/
def below (f : ι → EReal) (t : EReal) : ι → EReal := fun c => if f c < t then f c else ⊥

/-- The `i`-th greatest distinct value, counted from 0: the peak, then the peak of what lies below the one before. -/
def rank (f : ι → EReal) : ℕ → EReal
  | 0 => peak f
  | i + 1 => peak (below f (rank f i))

/-- Every value is at most the peak. -/
theorem le_peak (f : ι → EReal) (c : ι) : f c ≤ peak f := Finset.le_sup (Finset.mem_univ c)

/-- A bound of every value bounds the peak. -/
theorem peak_le {f : ι → EReal} {t : EReal} (h : ∀ c, f c ≤ t) : peak f ≤ t := Finset.sup_le fun c _ => h c

/-- A peak is -∞ or one of the values. -/
theorem peak_eq (f : ι → EReal) : peak f = ⊥ ∨ ∃ c, peak f = f c := by
  rcases isEmpty_or_nonempty ι with h | h
  · exact Or.inl (le_bot_iff.mp (peak_le fun c => h.elim c))
  · obtain ⟨c, _, hc⟩ := Finset.exists_mem_eq_sup Finset.univ Finset.univ_nonempty f
    exact Or.inr ⟨c, hc⟩

/-- A value below `t` is at most the peak of what lies below `t`. -/
theorem le_peak_below {f : ι → EReal} {t : EReal} {c : ι} (h : f c < t) : f c ≤ peak (below f t) := by
  have := le_peak (below f t) c
  rwa [below, if_pos h] at this

/-- A bound of every value below `t` bounds the peak of what lies below `t`. -/
theorem peak_below_le {f : ι → EReal} {t u : EReal} (h : ∀ c, f c < t → f c ≤ u) : peak (below f t) ≤ u :=
  peak_le fun c => by
    unfold below
    split
    · exact h c ‹_›
    · exact bot_le

/-- What lies below `t` peaks below `t`, unless it is all -∞. -/
theorem peak_below_lt (f : ι → EReal) (t : EReal) : peak (below f t) = ⊥ ∨ peak (below f t) < t := by
  rcases peak_eq (below f t) with h | ⟨c, h⟩
  · exact Or.inl h
  · unfold below at h
    split at h
    · rename_i hc
      exact Or.inr (by unfold below; rw [h]; exact hc)
    · exact Or.inl h

/-- What lies below `t` peaks at `t` at most. -/
theorem peak_below_le_self (f : ι → EReal) (t : EReal) : peak (below f t) ≤ t := peak_below_le fun _ h => h.le

/-- Removing every entry equal to the peak from what lies below `t` leaves what lies below that peak. -/
theorem below_knock (f : ι → EReal) (t : EReal) :
    (fun c => if below f t c = peak (below f t) then ⊥ else below f t c) = below f (peak (below f t)) := by
  funext c
  by_cases h : f c < t
  · have hb : below f t c = f c := if_pos h
    have hl : f c ≤ peak (below f t) := le_peak_below h
    simp only [hb]
    by_cases he : f c = peak (below f t)
    · rw [if_pos he]
      exact (if_neg (by rw [← he]; exact lt_irrefl _)).symm
    · rw [if_neg he]
      exact (if_pos (lt_of_le_of_ne hl he)).symm
  · have hb : below f t c = ⊥ := if_neg h
    have hn : ¬ f c < peak (below f t) := fun hc => h (hc.trans_le (peak_below_le_self f t))
    simp only [hb, ite_self]
    exact (if_neg hn).symm

/-- The same of the whole family. -/
theorem knock_peak (f : ι → EReal) : (fun c => if f c = peak f then ⊥ else f c) = below f (peak f) := by
  funext c
  by_cases he : f c = peak f
  · rw [if_pos he]
    exact (if_neg (by rw [← he]; exact lt_irrefl _)).symm
  · rw [if_neg he]
    exact (if_pos (lt_of_le_of_ne (le_peak f c) he)).symm

/-- One round: every entry equal to the peak becomes -∞. -/
def knock (f : ι → EReal) : ι → EReal := fun c => if f c = peak f then ⊥ else f c

/-- After `i + 1` rounds exactly the entries below rank `i` are left. -/
theorem knock_iterate (f : ι → EReal) (i : ℕ) : knock^[i + 1] f = below f (rank f i) := by
  induction i with
  | zero => exact knock_peak f
  | succ i ih => rw [Function.iterate_succ_apply', ih]; exact below_knock f (rank f i)

/-- The peak after `i` rounds is rank `i`. -/
theorem peak_knock_iterate (f : ι → EReal) : ∀ i, peak (knock^[i] f) = rank f i
  | 0 => rfl
  | i + 1 => by rw [knock_iterate]; rfl

/-- A value is at most rank `i`, or it is one of the ranks before. -/
theorem le_rank_or (f : ι → EReal) (c : ι) : ∀ i, f c ≤ rank f i ∨ ∃ k < i, f c = rank f k
  | 0 => Or.inl (le_peak f c)
  | i + 1 => by
    rcases le_rank_or f c i with h | ⟨k, hk, h⟩
    · rcases h.lt_or_eq with h | h
      · exact Or.inl (le_peak_below h)
      · exact Or.inr ⟨i, Nat.lt_succ_self i, h⟩
    · exact Or.inr ⟨k, hk.trans (Nat.lt_succ_self i), h⟩

/-- The ranks do not increase. -/
theorem rank_succ_le (f : ι → EReal) (i : ℕ) : rank f (i + 1) ≤ rank f i := peak_below_le_self f _

/-- A rank is -∞ or one of the values. -/
theorem rank_eq (f : ι → EReal) (i : ℕ) : rank f i = ⊥ ∨ ∃ c, rank f i = f c := by
  cases i with
  | zero => exact peak_eq f
  | succ i =>
    rcases peak_eq (below f (rank f i)) with h | ⟨c, h⟩
    · exact Or.inl h
    · by_cases hc : f c < rank f i
      · exact Or.inr ⟨c, h.trans (if_pos hc)⟩
      · exact Or.inl (h.trans (if_neg hc))

/-- A part's ranks are at most the whole's. -/
theorem rank_part_le {f : ι → EReal} {g : κ → EReal} (h : ∀ c, ∃ d, g d = f c) : ∀ i, rank f i ≤ rank g i
  | 0 => peak_le fun c => by obtain ⟨d, hd⟩ := h c; exact hd ▸ le_peak g d
  | i + 1 => peak_below_le fun c hc => by
      obtain ⟨d, hd⟩ := h c
      rw [← hd] at hc ⊢
      exact le_peak_below (hc.trans_le (rank_part_le h i))

/-- Below a bound that rank `n` does not pass, every value is at most one of the ranks up to `n + 1` that is itself
    below the bound, or it is -∞. -/
theorem exists_rank_ge {f : ι → EReal} {t : EReal} {n : ℕ} (hn : rank f n ≤ t) {c : ι} (hc : f c < t) :
    f c = ⊥ ∨ ∃ i ≤ n + 1, f c ≤ rank f i ∧ rank f i < t := by
  rcases le_rank_or f c (n + 1) with h | ⟨k, hk, h⟩
  · rcases peak_below_lt f (rank f n) with hb | hb
    · exact Or.inl (le_bot_iff.mp (h.trans hb.le))
    · exact Or.inr ⟨n + 1, le_rfl, h, hb.trans_le hn⟩
  · exact Or.inr ⟨k, hk.le, h.le, h ▸ hc⟩

/-- THE MERGE. Let every value of `F` be a value of some part and conversely, and let `g` list the ranks 0 … 7 of every
    part. Then the ranks 0 … 7 of `g` are those of `F`. -/
theorem rank_merge {F : κ → EReal} {f : δ → ι → EReal} {g : δ × Fin 8 → EReal} (hF : ∀ c, ∃ d k, f d k = F c)
    (hf : ∀ d k, ∃ c, F c = f d k) (hg : ∀ d i, g (d, i) = rank (f d) i.val) : ∀ j < 8, rank g j = rank F j := by
  have hgF : ∀ p, g p = ⊥ ∨ ∃ c, F c = g p := fun p => by
    rw [show g p = rank (f p.1) p.2.val from hg p.1 p.2]
    rcases rank_eq (f p.1) p.2.val with h | ⟨k, h⟩
    · exact Or.inl h
    · obtain ⟨c, hc⟩ := hf p.1 k
      exact Or.inr ⟨c, hc.trans h.symm⟩
  intro j
  induction j with
  | zero =>
    intro _
    refine le_antisymm (peak_le fun p => ?_) (peak_le fun c => ?_)
    · rcases hgF p with h | ⟨c, h⟩
      · rw [h]; exact bot_le
      · rw [← h]; exact le_peak F c
    · obtain ⟨d, k, h⟩ := hF c
      rw [← h]
      refine (le_peak (f d) k).trans ?_
      have := le_peak g (d, 0)
      rwa [hg] at this
  | succ j ih =>
    intro hj
    have ih := ih (by omega)
    show peak (below g (rank g j)) = peak (below F (rank F j))
    rw [ih]
    refine le_antisymm (peak_below_le fun p hp => ?_) (peak_below_le fun c hc => ?_)
    · rcases hgF p with h | ⟨c, h⟩
      · rw [h]; exact bot_le
      · rw [← h] at hp ⊢; exact le_peak_below hp
    · obtain ⟨d, k, h⟩ := hF c
      rw [← h] at hc ⊢
      rcases exists_rank_ge (rank_part_le (hf d) j) hc with hb | ⟨i, hi, hle, hlt⟩
      · rw [hb]; exact bot_le
      · have e := hg d ⟨i, by omega⟩
        rw [← show g (d, ⟨i, by omega⟩) = rank (f d) i from e] at hle hlt
        exact hle.trans (le_peak_below hlt)

/-- The ranks of a family listed in descending order are at most the list's entries. -/
theorem rank_le_sorted {n : ℕ} {F : κ → EReal} {s : Fin n → EReal} (hF : ∀ c, ∃ k, s k = F c) (hs : Antitone s) :
    ∀ (j : ℕ) (hj : j < n), rank F j ≤ s ⟨j, hj⟩
  | 0, hj => peak_le fun c => by
      obtain ⟨k, h⟩ := hF c
      rw [← h]
      exact hs (Fin.mk_le_of_le_val (Nat.zero_le _))
  | j + 1, hj => peak_below_le fun c hc => by
      obtain ⟨k, h⟩ := hF c
      rw [← h] at hc ⊢
      refine hs (Fin.mk_le_of_le_val ?_)
      by_contra hk
      exact absurd (hc.trans_le (rank_le_sorted hF hs j (by omega)))
        (not_lt.mpr (hs (show k ≤ ⟨j, by omega⟩ from by rw [Fin.le_def]; show k.val ≤ j; omega)))

/-- As long as the list strictly falls, the ranks ARE the list's entries. -/
theorem rank_eq_sorted {n : ℕ} {F : κ → EReal} {s : Fin n → EReal} (hF : ∀ c, ∃ k, s k = F c) (hF' : ∀ k, ∃ c, F c = s k)
    (hs : Antitone s) : ∀ (j : ℕ) (hj : j < n), (∀ i (hi : i < j), s ⟨i + 1, by omega⟩ < s ⟨i, by omega⟩) → rank F j = s ⟨j, hj⟩
  | 0, hj => fun _ => le_antisymm (rank_le_sorted hF hs 0 hj) (by obtain ⟨c, h⟩ := hF' ⟨0, hj⟩; rw [← h]; exact le_peak F c)
  | j + 1, hj => fun hd => le_antisymm (rank_le_sorted hF hs _ hj) (by
      have ih := rank_eq_sorted hF hF' hs j (by omega) fun i hi => hd i (by omega)
      obtain ⟨c, h⟩ := hF' ⟨j + 1, hj⟩
      have := hd j (by omega)
      rw [← h] at this ⊢
      rw [← ih] at this
      exact le_peak_below this)

end Cert.TopK

end
-- ==== Proof.Lists.lean ====
/- The kernel's two list computations read at the ideal floats: taking eight maxima of every row of a block, each time
   replacing the entries equal to the maximum by -∞, lists the row's ranks (Ranks.lean); and so does merging eight lists. -/
module

public import proofs.«01_k».proof.Proof.Ranks
public import proofs.«01_k».proof.Proof.Proto
public import Idealize.ShloMosaic.Lib.Pointwise
public import Idealize.ShloMosaic.Lib.ValueIdx
public import Idealize.ShloMosaic.Lib.Pipeline.Value
public import Idealize.ShloMosaic.PureOps.Ideal.Laws

@[expose] public section

noncomputable section

namespace Cert.TopK

open Cert.KernelIdeal Cert.KernelIdeal.Gen
open Idealize.ShloMosaic

/-- A block of 256 rows. -/
abbrev Rows (N : ℕ) : Shape := ⟨2, ![256, N]⟩

/-- The word of -∞ reads -∞. -/
theorem word_bot : (FloatOps.ofBits (F := Ideal) .f32 0xFF800000#32 : EReal) = ⊥ := by
  show Ideal.ieee 8 23 (0xFF800000#32) = ⊥
  unfold Ideal.ieee
  simp

section
variable {N : ℕ} (hr : (Rows N).Reduces [1] S256) (hc : S256.ShapeCasts S256x1) (hb : S256x1.Broadcasts (Rows N))

/-- The maximum of every row, as a column. -/
def rowMax {F : FTy → Type} [FloatOps F] (v : FVec F (Rows N) .f32) : FVec F S256x1 .f32 :=
  shapeCast S256x1 (multiReduction .maximumf [1] S256 v 0xFF800000#32 hr (.inl rfl) rfl) hc

/-- Every entry equal to its row's maximum replaced by -∞. -/
def strike {F : FTy → Type} [FloatOps F] (v : FVec F (Rows N) .f32) : FVec F (Rows N) .f32 :=
  select (cmpf .oeq v (broadcastTo (Rows N) (rowMax hr hc v) hb)) (broadcast (Rows N) (Scalar.ofBits .f32 0xFF800000#32)) v

/-- Row `r` of a block. -/
def row (v : FVec Ideal (Rows N) .f32) (r : Fin 256) : Fin N → EReal := fun k => v (ix2 r k)

/-- The index that the reduction runs over at row `r` and position `k`. -/
theorem lift_row (r : Fin 256) (k : Fin N) : hr.lift (ix1 r) k = ix2 r k := by
  funext a
  match a with
  | ⟨0, _⟩ => exact Fin.ext (by rfl)
  | ⟨1, _⟩ => exact Fin.ext (by rfl)

/-- The column of maxima holds, at row `r`, the peak of the row. -/
theorem rowMax_apply (v : FVec Ideal (Rows N) .f32) (r : Fin 256) : rowMax hr hc v (ix2 r 0) = peak (row v r) := by
  have h1 : rowMax hr hc v (ix2 r 0) = multiReduction .maximumf [1] S256 v 0xFF800000#32 hr (.inl rfl) rfl (ix1 r) := by
    unfold rowMax
    simp only [pointwise]
  refine h1.trans ((Ideal.multiReduction_maximumf_single v _ hr (.inl rfl) rfl (ix1 r)).trans ?_)
  have e : FloatOps.ofBits (F := Ideal) .f32 (FKind.maximumf.neutral .f32 (.inl rfl)) = ⊥ := word_bot
  rw [e]
  have hv : v ∘ hr.lift (ix1 r) = row v r := funext fun k => congrArg v (lift_row hr r k)
  exact congrArg (fun f : Fin N → EReal => Finset.fold max ⊥ f Finset.univ) hv

/-- Striking the maxima of a block knocks the peak out of each row. -/
theorem strike_row (v : FVec Ideal (Rows N) .f32) (r : Fin 256) : row (strike hr hc hb v) r = knock (row v r) := by
  funext k
  have h1 : broadcastTo (Rows N) (rowMax hr hc v) hb (ix2 r k) = peak (row v r) := by
    rw [← rowMax_apply hr hc v r]
    refine congrArg (rowMax hr hc v) ?_
    funext a
    match a with
    | ⟨0, _⟩ => exact Fin.ext (by rfl)
    | ⟨1, _⟩ => exact Fin.ext (by rfl)
  show Scalar.select (FloatOps.cmpf .oeq (v (ix2 r k)) (broadcastTo (Rows N) (rowMax hr hc v) hb (ix2 r k))) (FloatOps.ofBits (F := Ideal) .f32 0xFF800000#32) (v (ix2 r k)) = _
  rw [h1, word_bot]
  unfold knock
  show Scalar.select (Ideal.cmp .oeq (row v r k) (peak (row v r))) ⊥ (row v r k) = _
  by_cases h : row v r k = peak (row v r)
  · rw [if_pos h]; simp [Ideal.cmp, Scalar.select, h]
  · rw [if_neg h]; simp [Ideal.cmp, Scalar.select, h]

/-- After `i` rounds of striking, the row's maximum is its rank `i`. -/
theorem rowMax_strikes (v : FVec Ideal (Rows N) .f32) (r : Fin 256) (i : ℕ) :
    rowMax hr hc ((strike hr hc hb)^[i] v) (ix2 r 0) = rank (row v r) i := by
  have h : ∀ i, row ((strike hr hc hb)^[i] v) r = knock^[i] (row v r) := fun i => by
    induction i with
    | zero => rfl
    | succ i ih => rw [Function.iterate_succ_apply', strike_row, ih, Function.iterate_succ_apply']
  rw [rowMax_apply, h, peak_knock_iterate]

end

/-- Eight columns side by side, read at an entry. -/
theorem columns_apply {α : Type} (f : Fin 8 → (S256x1.Idx → α))
    (h : Shape.Concatenates [S256x1, S256x1, S256x1, S256x1, S256x1, S256x1, S256x1, S256x1] S256x8 1) (r : Fin 256) (j : Fin 8) :
    concatenate S256x8 1 [⟨S256x1, f 0⟩, ⟨S256x1, f 1⟩, ⟨S256x1, f 2⟩, ⟨S256x1, f 3⟩, ⟨S256x1, f 4⟩, ⟨S256x1, f 5⟩, ⟨S256x1, f 6⟩, ⟨S256x1, f 7⟩] h (ix2 r j) = f j (ix2 r 0) :=
  concatenate_ofFn_unit_apply (t := S256x8) (s₁ := S256x1) (1 : Fin 2) f h rfl rfl (ix2 r j) j rfl (ix2 r 0) (fun b hb => by
    match b with
    | ⟨0, _⟩ => rfl
    | ⟨1, _⟩ => exact absurd rfl hb)

/-- Eight lists of eight side by side, read at an entry. -/
theorem lists_apply {α : Type} (f : Fin 8 → (S256x8.Idx → α))
    (h : Shape.Concatenates [S256x8, S256x8, S256x8, S256x8, S256x8, S256x8, S256x8, S256x8] S256x64 1) (r : Fin 256) (k : Fin 64) :
    concatenate S256x64 1 [⟨S256x8, f 0⟩, ⟨S256x8, f 1⟩, ⟨S256x8, f 2⟩, ⟨S256x8, f 3⟩, ⟨S256x8, f 4⟩, ⟨S256x8, f 5⟩, ⟨S256x8, f 6⟩, ⟨S256x8, f 7⟩] h (ix2 r k)
      = f ⟨k.val / 8, by omega⟩ (ix2 r ⟨k.val % 8, by omega⟩) :=
  concatenate_ofFn_apply (t := S256x64) (s₁ := S256x8) (1 : Fin 2) f h rfl 8 rfl (ix2 r k) ⟨k.val / 8, by omega⟩ rfl
    (ix2 r ⟨k.val % 8, by omega⟩) rfl (fun b hb => by
      match b with
      | ⟨0, _⟩ => rfl
      | ⟨1, _⟩ => exact absurd rfl hb)

/-- The eight maxima of every row, side by side. -/
def listOf {F : FTy → Type} [FloatOps F] {N : ℕ} (hr : (Rows N).Reduces [1] S256) (hb : S256x1.Broadcasts (Rows N)) (v : FVec F (Rows N) .f32) :
    FVec F S256x8 .f32 :=
  let m := fun w => rowMax hr shapeCasts_S256_S256x1 w
  let s := fun w => strike hr shapeCasts_S256_S256x1 hb w
  concatenate S256x8 1 [⟨S256x1, m v⟩, ⟨S256x1, m (s v)⟩, ⟨S256x1, m (s (s v))⟩, ⟨S256x1, m (s (s (s v)))⟩, ⟨S256x1, m (s (s (s (s v))))⟩, ⟨S256x1, m (s (s (s (s (s v)))))⟩, ⟨S256x1, m (s (s (s (s (s (s v))))))⟩, ⟨S256x1, m (s (s (s (s (s (s (s v)))))))⟩]
    concatenates_S256x1_S256x1_S256x1_S256x1_S256x1_S256x1_S256x1_S256x1_S256x8_d1

/-- Entry (r, j) of that list is rank `j` of row `r`. -/
theorem listOf_apply {N : ℕ} (hr : (Rows N).Reduces [1] S256) (hb : S256x1.Broadcasts (Rows N)) (v : FVec Ideal (Rows N) .f32) (r : Fin 256)
    (j : Fin 8) : listOf hr hb v (ix2 r j) = rank (row v r) j := by
  refine Eq.trans ?_ (rowMax_strikes hr shapeCasts_S256_S256x1 hb v r j)
  unfold listOf
  generalize strike (F := Ideal) hr shapeCasts_S256_S256x1 hb = s
  generalize (rowMax (F := Ideal) hr shapeCasts_S256_S256x1) = m
  exact columns_apply (fun n : Fin 8 => m (s^[n.val] v)) concatenates_S256x1_S256x1_S256x1_S256x1_S256x1_S256x1_S256x1_S256x1_S256x8_d1 r j

/-! The printed payloads are those maxima and strikes. -/

section
variable {F : FTy → Type} [FloatOps F]

/-- The rows' maxima of a chunk. -/
abbrev rowMax₁ (v : FVec F S256x256 .f32) : FVec F S256x1 .f32 := rowMax reduces_S256x256_S256 shapeCasts_S256_S256x1 v

/-- A chunk with its rows' maxima struck. -/
abbrev strike₁ (v : FVec F S256x256 .f32) : FVec F S256x256 .f32 := strike reduces_S256x256_S256 shapeCasts_S256_S256x1 broadcasts_S256x1_S256x256 v

/-- The rows' maxima of the eight lists. -/
abbrev rowMax₂ (v : FVec F S256x64 .f32) : FVec F S256x1 .f32 := rowMax reduces_S256x64_S256 shapeCasts_S256_S256x1 v

/-- The eight lists with their rows' maxima struck. -/
abbrev strike₂ (v : FVec F S256x64 .f32) : FVec F S256x64 .f32 := strike reduces_S256x64_S256 shapeCasts_S256_S256x1 broadcasts_S256x1_S256x64 v

/-- The first maximum of a chunk's rows. -/
theorem pay3 (v : Vec F S256x256 .f32) : k0_pay3 v = rowMax₁ (k0_pay2 v) := rfl
/-- The chunk after the first maximum is struck. -/
theorem pay4 (v : Vec F S256x256 .f32) : k0_pay4 v = strike₁ (k0_pay2 v) := rfl
/-- The second maximum of a chunk's rows. -/
theorem pay5 (v : Vec F S256x256 .f32) : k0_pay5 v = rowMax₁ (k0_pay4 v) := rfl
/-- The chunk after the second maximum is struck. -/
theorem pay6 (v : Vec F S256x256 .f32) : k0_pay6 v = strike₁ (k0_pay4 v) := rfl
/-- The third maximum of a chunk's rows. -/
theorem pay7 (v : Vec F S256x256 .f32) : k0_pay7 v = rowMax₁ (k0_pay6 v) := rfl
/-- The chunk after the third maximum is struck. -/
theorem pay8 (v : Vec F S256x256 .f32) : k0_pay8 v = strike₁ (k0_pay6 v) := rfl
/-- The fourth maximum of a chunk's rows. -/
theorem pay9 (v : Vec F S256x256 .f32) : k0_pay9 v = rowMax₁ (k0_pay8 v) := rfl
/-- The chunk after the fourth maximum is struck. -/
theorem pay10 (v : Vec F S256x256 .f32) : k0_pay10 v = strike₁ (k0_pay8 v) := rfl
/-- The fifth maximum of a chunk's rows. -/
theorem pay11 (v : Vec F S256x256 .f32) : k0_pay11 v = rowMax₁ (k0_pay10 v) := rfl
/-- The chunk after the fifth maximum is struck. -/
theorem pay12 (v : Vec F S256x256 .f32) : k0_pay12 v = strike₁ (k0_pay10 v) := rfl
/-- The list of a chunk: the first five maxima as given, the last three computed, side by side. -/
theorem pay13 (a b c d e : FVec F S256x1 .f32) (w : FVec F S256x256 .f32) : k0_pay13 a b c d e w
    = shapeCast S1x256x8 (concatenate S256x8 1 [⟨S256x1, a⟩, ⟨S256x1, b⟩, ⟨S256x1, c⟩, ⟨S256x1, d⟩, ⟨S256x1, e⟩, ⟨S256x1, rowMax₁ w⟩,
        ⟨S256x1, rowMax₁ (strike₁ w)⟩, ⟨S256x1, rowMax₁ (strike₁ (strike₁ w))⟩] concatenates_S256x1_S256x1_S256x1_S256x1_S256x1_S256x1_S256x1_S256x1_S256x8_d1) shapeCasts_S256x8_S1x256x8 := rfl

/-- The first maximum of the eight lists. -/
theorem pay18 (p q r : FVec F S256x8 .f32) (a b c d e : Vec F S1x256x8 .f32) : k0_pay18 p q r a b c d e = rowMax₂ (k0_pay17 p q r a b c d e) := rfl
/-- The lists after the first maximum is struck. -/
theorem pay19 (p q r : FVec F S256x8 .f32) (a b c d e : Vec F S1x256x8 .f32) : k0_pay19 p q r a b c d e = strike₂ (k0_pay17 p q r a b c d e) := rfl
/-- The second maximum of the eight lists. -/
theorem pay20 (p q r : FVec F S256x8 .f32) (a b c d e : Vec F S1x256x8 .f32) : k0_pay20 p q r a b c d e = rowMax₂ (k0_pay19 p q r a b c d e) := rfl
/-- The lists after the second maximum is struck. -/
theorem pay21 (p q r : FVec F S256x8 .f32) (a b c d e : Vec F S1x256x8 .f32) : k0_pay21 p q r a b c d e = strike₂ (k0_pay19 p q r a b c d e) := rfl
/-- The third maximum of the eight lists. -/
theorem pay22 (p q r : FVec F S256x8 .f32) (a b c d e : Vec F S1x256x8 .f32) : k0_pay22 p q r a b c d e = rowMax₂ (k0_pay21 p q r a b c d e) := rfl
/-- The lists after the third maximum is struck. -/
theorem pay23 (p q r : FVec F S256x8 .f32) (a b c d e : Vec F S1x256x8 .f32) : k0_pay23 p q r a b c d e = strike₂ (k0_pay21 p q r a b c d e) := rfl
/-- The fourth maximum of the eight lists. -/
theorem pay24 (p q r : FVec F S256x8 .f32) (a b c d e : Vec F S1x256x8 .f32) : k0_pay24 p q r a b c d e = rowMax₂ (k0_pay23 p q r a b c d e) := rfl
/-- The lists after the fourth maximum is struck. -/
theorem pay25 (p q r : FVec F S256x8 .f32) (a b c d e : Vec F S1x256x8 .f32) : k0_pay25 p q r a b c d e = strike₂ (k0_pay23 p q r a b c d e) := rfl
/-- The fifth maximum of the eight lists. -/
theorem pay26 (p q r : FVec F S256x8 .f32) (a b c d e : Vec F S1x256x8 .f32) : k0_pay26 p q r a b c d e = rowMax₂ (k0_pay25 p q r a b c d e) := rfl
/-- The last payload takes the fifth maximum's comparison already made. -/
theorem pay1 (m₀ m₁ m₂ m₃ : FVec F S256x1 .f32) (p q r : FVec F S256x8 .f32) (a b c d e : Vec F S1x256x8 .f32) :
    k0_pay1 m₀ m₁ m₂ m₃ (k0_pay25 p q r a b c d e) (k0_pay26 p q r a b c d e) (k0_pay27 p q r a b c d e)
      = concatenate S256x8 1 [⟨S256x1, m₀⟩, ⟨S256x1, m₁⟩, ⟨S256x1, m₂⟩, ⟨S256x1, m₃⟩, ⟨S256x1, k0_pay26 p q r a b c d e⟩,
          ⟨S256x1, rowMax₂ (strike₂ (k0_pay25 p q r a b c d e))⟩, ⟨S256x1, rowMax₂ (strike₂ (strike₂ (k0_pay25 p q r a b c d e)))⟩,
          ⟨S256x1, rowMax₂ (strike₂ (strike₂ (strike₂ (k0_pay25 p q r a b c d e))))⟩] concatenates_S256x1_S256x1_S256x1_S256x1_S256x1_S256x1_S256x1_S256x1_S256x8_d1 := rfl

/-- What a device computes of its chunk, in those terms. -/
theorem topOf_eq (v : Vec F S256x256 .f32) :
    topOf v = shapeCast S1x256x8 (listOf reduces_S256x256_S256 broadcasts_S256x1_S256x256 (k0_pay2 v)) shapeCasts_S256x8_S1x256x8 := by
  unfold topOf listOf
  rw [pay13, pay12, pay11, pay10, pay9, pay8, pay7, pay6, pay5, pay4, pay3]

/-- The eight lists side by side. -/
def sideBySide (s : Fin 8 → FVec F S1x256x8 .f32) : FVec F S256x64 .f32 :=
  let g := fun n => shapeCast S256x8 (s n) shapeCasts_S1x256x8_S256x8
  concatenate S256x64 1 [⟨S256x8, g 0⟩, ⟨S256x8, g 1⟩, ⟨S256x8, g 2⟩, ⟨S256x8, g 3⟩, ⟨S256x8, g 4⟩, ⟨S256x8, g 5⟩, ⟨S256x8, g 6⟩, ⟨S256x8, g 7⟩]
    concatenates_S256x8_S256x8_S256x8_S256x8_S256x8_S256x8_S256x8_S256x8_S256x64_d1

/-- What is computed of the eight lists, in those terms. -/
theorem mergeOf_eq (s : Fin 8 → FVec F S1x256x8 .f32) :
    mergeOf s = listOf reduces_S256x64_S256 broadcasts_S256x1_S256x64 (sideBySide s) := by
  have h : k0_pay17 (k0_pay14 (s 0)) (k0_pay15 (s 1)) (k0_pay16 (s 2)) (s 3) (s 4) (s 5) (s 6) (s 7) = sideBySide s := rfl
  unfold mergeOf listOf
  rw [pay1, pay26, pay25, pay24, pay23, pay22, pay21, pay20, pay19, pay18, h]

end

/-- What a device computes of its chunk is the list of the chunk's ranks. -/
theorem topOf_apply (v : FVec Ideal S256x256 .f32) (r : Fin 256) (j : Fin 8) :
    topOf (F := Ideal) v (ix3 0 r j) = rank (row v r) j := by
  have h2 : k0_pay2 v = v := by unfold k0_pay2; simp only [pointwise]
  rw [topOf_eq, h2]
  simp only [pointwise]
  exact listOf_apply ..

/-- What is computed of the eight lists is the list of the ranks of all their entries. -/
theorem mergeOf_apply (s : Fin 8 → FVec Ideal S1x256x8 .f32) (r : Fin 256) (j : Fin 8) :
    mergeOf (F := Ideal) s (ix2 r j) = rank (fun k : Fin 64 => s ⟨k.val / 8, by omega⟩ (ix3 0 r ⟨k.val % 8, by omega⟩)) j := by
  rw [mergeOf_eq, listOf_apply]
  congr 1
  funext k
  refine (lists_apply (fun n => shapeCast S256x8 (s n) shapeCasts_S1x256x8_S256x8) concatenates_S256x8_S256x8_S256x8_S256x8_S256x8_S256x8_S256x8_S256x8_S256x64_d1 r k).trans ?_
  simp only [pointwise]

end Cert.TopK

end
-- ==== Proof.KernelValue.lean ====
/- What the kernel's result array ends holding: at (r, j), rank `j` of row `r` of the whole array. -/
module

public import proofs.«01_k».proof.Proof.Run
public import proofs.«01_k».proof.Proof.Lists
public import Idealize.ShloMosaic.Lib.Layout
public import Idealize.ShloMosaic.Lib.Pipeline.ValueKit

@[expose] public section

noncomputable section

namespace Cert.TopK

open Cert.KernelIdeal Cert.KernelIdeal.Gen
open Idealize.ShloMosaic Idealize.SL.Sem

section
variable {F : FTy → Type} [FloatOps F] (m : (ℓ : Loc nD τ sig) → Buf (Elt F) ℓ) (ρ : Dev nD → PrngReg)

/-- The result array ends holding what was computed of the eight lists. -/
theorem finalA_out (c : Dev nD) : finalA m ρ c (1 : Fin 2) = outAt m ρ := by
  unfold finalA
  refine (dats m ρ 0 c).arrAt_eq_of_after_last (1 : Fin 2) t0_0 (by decide +kernel) _ fun j => ?_
  rfl

/-- The block a device works on is its argument array. -/
theorem xstg_eq (c : Dev nD) : xstg m ρ c = m ((c.tc : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- Where a device's chunk starts in its block. -/
theorem off_val : ∀ c : Dev nD, k0_off1 c 0 = 0 ∧ k0_off1 c 1 = 512 * (c.val / 4) + 256 * (c.val % 2) := by decide +kernel

/-- The column of the whole array at which column `k` of device `d`'s chunk lies. -/
def col (d : Fin 8) (k : Fin 256) : Fin 2048 := ⟨d.val / 2 % 2 * 1024 + (512 * (d.val / 4) + 256 * (d.val % 2) + k.val), by omega⟩

/-- Every column is some device's. -/
theorem col_surjective (c : Fin 2048) : ∃ d k, col d k = c :=
  ⟨⟨4 * (c.val % 1024 / 512) + 2 * (c.val / 1024) + c.val % 512 / 256, by omega⟩, ⟨c.val % 256, by omega⟩, Fin.ext (by
    have h1 : (4 * (c.val % 1024 / 512) + 2 * (c.val / 1024) + c.val % 512 / 256) / 2 % 2 = c.val / 1024 := by omega
    have h2 : (4 * (c.val % 1024 / 512) + 2 * (c.val / 1024) + c.val % 512 / 256) / 4 = c.val % 1024 / 512 := by omega
    have h3 : (4 * (c.val % 1024 / 512) + 2 * (c.val / 1024) + c.val % 512 / 256) % 2 = c.val % 512 / 256 := by omega
    simp only [col, h1, h2, h3]; omega)⟩

/-- The chunk's entries are the entries of the staged block at the device's 256 columns. -/
theorem chunk_apply (d : Dev nD) (r k : Fin 256) :
    chunk m ρ d (ix2 r k) = xstg m ρ d (ix2 r ⟨512 * (d.val / 4) + 256 * (d.val % 2) + k.val, by have := d.isLt; simp only [nD] at this; omega⟩) := by
  show xstg m ρ d _ = xstg m ρ d _
  congr 1
  funext a
  match a with
  | ⟨0, _⟩ => exact Fin.ext (by show k0_off1 d 0 + 1 * r.val = r.val; rw [(off_val d).1]; omega)
  | ⟨1, _⟩ => exact Fin.ext (by show k0_off1 d 1 + 1 * k.val = _; rw [(off_val d).2]; show _ = _ + k.val; omega)

end

/-- A device's chunk holds the columns `col d` of the whole array. -/
theorem chunk_row (m : (ℓ : Loc nD τ sig) → Buf (Elt Ideal) ℓ) (ρ : Dev nD → PrngReg) (x : FVec Ideal (Rows 2048) .f32)
    (hx : ∀ c : Dev nD, m ((c.tc : Thread nD τ).loc main_arg0) = Layout.blockN ⟨2, ![256, 1024]⟩ ⟨2, ![256, 2048]⟩ (Layout.meshBlock [2, 2, 2] ![[], [1]] c) x)
    (d : Dev nD) (r k : Fin 256) : row (chunk m ρ d) r k = x (ix2 r (col d k)) := by
  unfold row
  rw [chunk_apply, xstg_eq, hx, Layout.blockN_apply]
  congr 1
  funext a
  match a with
  | ⟨0, _⟩ => exact Fin.ext (by show 0 * 256 + r.val = r.val; omega)
  | ⟨1, _⟩ => exact Fin.ext (by
      show (d.val / (2 * 1) % 2 * 1 + 0) * 1024 + (512 * (d.val / 4) + 256 * (d.val % 2) + k.val) = d.val / 2 % 2 * 1024 + (512 * (d.val / 4) + 256 * (d.val % 2) + k.val)
      omega)

/-- Entry (r, j) of the result is the `j`-th greatest distinct value of row `r` of the whole array, counted from 0. -/
theorem outAt_apply (m : (ℓ : Loc nD τ sig) → Buf (Elt Ideal) ℓ) (ρ : Dev nD → PrngReg) (x : FVec Ideal (Rows 2048) .f32)
    (hx : ∀ c : Dev nD, m ((c.tc : Thread nD τ).loc main_arg0) = Layout.blockN ⟨2, ![256, 1024]⟩ ⟨2, ![256, 2048]⟩ (Layout.meshBlock [2, 2, 2] ![[], [1]] c) x)
    (r : Fin 256) (j : Fin 8) : outAt m ρ (ix2 r j) = rank (fun c => x (ix2 r c)) j.val := by
  unfold outAt
  rw [mergeOf_apply]
  have hc : ∀ (d : Fin 8) (i : Fin 8), cand m ρ d (ix3 0 r i) = rank (row (chunk m ρ d) r) i.val := fun d i => topOf_apply _ r i
  let g : Fin 8 × Fin 8 → EReal := fun p => cand m ρ p.1 (ix3 0 r p.2)
  let h : Fin 64 → EReal := fun k => cand m ρ (⟨k.val / 8, by omega⟩ : Fin 8) (ix3 0 r ⟨k.val % 8, by omega⟩)
  have hgh : ∀ p : Fin 8 × Fin 8, ∃ k, h k = g p := fun ⟨d, i⟩ => by
    refine ⟨⟨d.val * 8 + i.val, by omega⟩, ?_⟩
    have e1 : (⟨(d.val * 8 + i.val) / 8, by omega⟩ : Fin 8) = d := Fin.ext (by show _ / 8 = _; omega)
    have e2 : (⟨(d.val * 8 + i.val) % 8, by omega⟩ : Fin 8) = i := Fin.ext (by show _ % 8 = _; omega)
    show cand m ρ (⟨(d.val * 8 + i.val) / 8, by omega⟩ : Fin 8) (ix3 0 r ⟨(d.val * 8 + i.val) % 8, by omega⟩) = cand m ρ d (ix3 0 r i)
    rw [e1, e2]
  refine Eq.trans (b := rank g j.val) (le_antisymm (rank_part_le (f := h) (g := g) (fun k => ⟨(_, _), rfl⟩) _) (rank_part_le hgh _)) ?_
  · refine rank_merge (f := fun d k => row (chunk m ρ d) r k) (fun c => ?_) (fun d k => ⟨col d k, (chunk_row m ρ x hx d r k).symm⟩) hc _ j.isLt
    obtain ⟨d, k, h⟩ := col_surjective c
    exact ⟨d, k, by rw [← h]; exact chunk_row m ρ x hx d r k⟩

end Cert.TopK

end
-- ==== Proof.RefValue.lean ====
/- What the reference computes, read at an entry: row `r` of the array sorted from the greatest down, at place `j`. -/
module

public import proofs.«01_k».proof.Proof.Gen.On_distinct
public import proofs.«01_k».proof.Proof.Lists
public import Idealize.ShloMosaic.Lib.SortFacts
public import Idealize.ShloMosaic.PureOps.Reduce

@[expose] public section

noncomputable section

namespace Cert.TopK

open Cert.On_distinct Cert.On_distinct.Gen
open Idealize.ShloMosaic

/-! ## The words of column numbers -/

/-- A column's word is not negative. -/
theorem word_slt : ∀ k : Fin 2048, IntOp.cmpi .slt (BitVec.ofNat 32 k.val) 0#32 = 0#1 := by decide +kernel
/-- A column's word is at least 0. -/
theorem word_sge : ∀ k : Fin 2048, IntOp.cmpi .sge (BitVec.ofNat 32 k.val) 0#32 = 1#1 := by decide +kernel
/-- A column's word is at most 2047. -/
theorem word_sle : ∀ k : Fin 2048, IntOp.cmpi .sle (BitVec.ofNat 32 k.val) 2047#32 = 1#1 := by decide +kernel
/-- A column's word, read as a number and kept in range, is the column. -/
theorem word_toInt : ∀ k : Fin 2048, min (BitVec.ofNat 32 k.val).toInt.toNat (2048 - 1) = k.val := by decide +kernel

/-! ## Taking entries of a row at given columns -/

/-- A conjunction of ones is one. -/
theorem foldl_andi_one {ι : Type} (p : ι → BitVec 1) (l : List ι) (h : ∀ i ∈ l, p i = 1#1) : l.foldl (fun r i => IntOp.andi r (p i)) 1#1 = 1#1 := by
  induction l with
  | nil => rfl
  | cons a l ih =>
    rw [List.foldl_cons, h a List.mem_cons_self]
    exact ih fun i hi => h i (List.mem_cons_of_mem _ hi)

/-- The gather reads row `r` at the column its index names. -/
theorem gather_apply {α : Type} (x : (Rows 2048).Idx → α) (idx : IVec S256x8x1 32) (r : Fin 256) (j : Fin 8) (k : Fin 2048)
    (hk : idx (ix3 r j 0) = BitVec.ofNat 32 k.val) :
    Host.gather gather_S256x2048_S256x8x1_S256x8_n_1_0_0_1_2_11 x idx (ix2 r j) = x (ix2 r k) := by
  have hw : min (idx (ix3 r j 0)).toInt.toNat (2048 - 1) = k.val := by rw [hk]; exact word_toInt k
  refine congrArg x (funext fun a => ?_)
  match a with
  | ⟨0, _⟩ => exact Fin.ext (show 0 + r.val + 0 = r.val by omega)
  | ⟨1, _⟩ =>
    refine Fin.ext (Eq.trans (b := min (idx (ix3 r j 0)).toInt.toNat (2048 - 1) + 0 + 0) ?_ hw)
    refine congrArg (fun i => min (idx i).toInt.toNat (2048 - 1) + 0 + 0) (funext fun b => ?_)
    match b with
    | ⟨0, _⟩ => rfl
    | ⟨1, _⟩ => rfl
    | ⟨2, _⟩ => rfl

/-- Taking along the rows, at (r, j): row `r` at the column named, when it is the word of a column. -/
theorem take_apply (x : FVec Ideal (Rows 2048) .f32) (idx : IVec S256x8 32) (k : Fin 256 → Fin 8 → Fin 2048)
    (hk : ∀ r j, idx (ix2 r j) = BitVec.ofNat 32 (k r j).val) (r : Fin 256) (j : Fin 8) :
    fn_take_along_axis (F := Ideal) x idx (ix2 r j) = x (ix2 r (k r j)) := by
  have hsel : select (cmpi .slt idx (broadcastInDim S256x8 ![] bcast_S_S256x8 (constantI S_ 32 0#32)))
      (addi idx (broadcastInDim S256x8 ![] bcast_S_S256x8 (constantI S_ 32 2048#32))) idx = idx := by
    funext i
    obtain ⟨a, b, rfl⟩ : ∃ a b, i = ix2 a b := ⟨_, _, ValueIdx.eq_ix2 i⟩
    show Scalar.select (IntOp.cmpi .slt (idx (ix2 a b)) 0#32) _ (idx (ix2 a b)) = _
    rw [hk, word_slt]
    rfl
  have h3 : ∀ i, ∃ a b, shapeCast S256x8x1 idx shapeCasts_S256x8_S256x8x1 i = BitVec.ofNat 32 (k a b).val := fun i =>
    ⟨_, _, (congrArg idx (ValueIdx.eq_ix2 _)).trans (hk _ _)⟩
  have hg : shapeCast S256x8x1 idx shapeCasts_S256x8_S256x8x1 (ix3 r j 0) = BitVec.ofNat 32 (k r j).val := by
    rw [← hk]
    simp only [pointwise]
  unfold fn_take_along_axis
  dsimp only
  rw [hsel]
  show Scalar.select (Host.reduce IntOp.andi _ _ _ _ (ix2 r j)) (Host.gather _ x _ (ix2 r j)) _ = _
  rw [gather_apply x _ r j (k r j) hg, Host.reduce_eq_foldl]
  rw [show constantI S_ 1 1#1 (Shape.Idx.first h_S_) = 1#1 from rfl, foldl_andi_one]
  · rfl
  · intro i _
    obtain ⟨a, b, e⟩ := h3 i
    show IntOp.andi (IntOp.cmpi .sge (shapeCast S256x8x1 idx shapeCasts_S256x8_S256x8x1 i) 0#32)
      (IntOp.cmpi .sle (shapeCast S256x8x1 idx shapeCasts_S256x8_S256x8x1 i) 2047#32) = 1#1
    rw [e, word_sge, word_sle]
    rfl

/-! ## Sorting a row -/

/-- The word of zero reads zero. -/
theorem word_zero : (FloatOps.ofBits (F := Ideal) .f32 0x00000000#32 : EReal) = 0 := by
  show Ideal.ieee 8 23 (0x00000000#32) = 0
  unfold Ideal.ieee
  simp

/-- The sort's comparison of two values is their order. -/
theorem comparator_iff (a b : EReal × BitVec 32) : comparator_f32_i32_d1 (F := Ideal) a b = 1#1 ↔ a.1 < b.1 := by
  have key : ∀ v : EReal, Scalar.select (FloatOps.cmpf (F := Ideal) (φ := .f32) .une v v) (FloatOps.ofBits (F := Ideal) .f32 0x7FC00000#32)
      (Scalar.select (FloatOps.cmpf (F := Ideal) (φ := .f32) .oeq v (FloatOps.ofBits (F := Ideal) .f32 0x00000000#32)) (FloatOps.ofBits (F := Ideal) .f32 0x00000000#32) v) = v := fun v => by
    rw [word_zero]
    show Scalar.select (Ideal.cmp .une v v) _ (Scalar.select (Ideal.cmp .oeq v 0) 0 v) = v
    by_cases h : v = 0 <;> simp [Ideal.cmp, Scalar.select, h]
  unfold comparator_f32_i32_d1
  dsimp only
  rw [key, key]
  show Ideal.cmp .olt a.1 b.1 = 1#1 ↔ _
  by_cases h : a.1 < b.1 <;> simp [Ideal.cmp, h]

/-- Place `k` precedes place `k'` when its value is the greater. -/
def before (x : FVec Ideal (Rows 2048) .f32) (r : Fin 256) (k k' : Fin 2048) : Bool :=
  comparator_f32_i32_d1 (F := Ideal) (Host.negf x (ix2 r k), iotaInDim S256x2048 32 1 (ix2 r k)) (Host.negf x (ix2 r k'), iotaInDim S256x2048 32 1 (ix2 r k')) == 1#1

/-- The column whose value stands at place `j` of row `r` sorted from the greatest down. -/
def place (x : FVec Ideal (Rows 2048) .f32) (r : Fin 256) : Fin 2048 → Fin 2048 := sortedFrom (before x r)

/-- Row `r` sorted from the greatest down. -/
def sorted (x : FVec Ideal (Rows 2048) .f32) (r : Fin 256) (k : Fin 2048) : EReal := x (ix2 r (place x r k))

/-- One column comes before another in the sort when its value is greater. -/
theorem before_iff (x : FVec Ideal (Rows 2048) .f32) (r : Fin 256) (k k' : Fin 2048) : before x r k k' = true ↔ x (ix2 r k') < x (ix2 r k) := by
  unfold before
  rw [beq_iff_eq, comparator_iff]
  exact EReal.neg_lt_neg_iff

/-- The sorted row does not increase. -/
theorem sorted_antitone (x : FVec Ideal (Rows 2048) .f32) (r : Fin 256) : Antitone (sorted x r) := by
  intro i j hij
  rcases hij.eq_or_lt with rfl | hij
  · exact le_rfl
  · have hno : ∀ a b, before x r a b = false ↔ x (ix2 r a) ≤ x (ix2 r b) := fun a b => by
      rw [← Bool.not_eq_true, before_iff, not_lt]
    have := sortedFrom_noInversion (before x r) (before x r) (fun a b h => (hno b a).2 ((before_iff x r a b).1 h).le) (fun _ _ h => h)
      (fun a b c h h' => (hno a c).2 (((hno a b).1 h).trans ((hno b c).1 h'))) i j hij
    exact (hno _ _).1 this

/-- Every entry of the row stands somewhere in the sorted row. -/
theorem sorted_covers (x : FVec Ideal (Rows 2048) .f32) (r : Fin 256) (c : Fin 2048) : ∃ k, sorted x r k = x (ix2 r c) := by
  obtain ⟨k, h⟩ := sortedFrom_surjective (before x r) c
  exact ⟨k, by unfold sorted place; rw [h]⟩

/-- The argument sort's entry at (r, k) is the word of the column standing at place `k`. -/
theorem argsort_apply (x : FVec Ideal (Rows 2048) .f32) (r : Fin 256) (k : Fin 2048) :
    fn_argsort (F := Ideal) (Host.negf x) (ix2 r k) = BitVec.ofNat 32 (place x r k).val := by
  have hal : ∀ k', (ix2 r k : S256x2048.Idx).along (1 : Fin 2) k' = ix2 r k' := fun k' => by
    funext a
    match a with
    | ⟨0, _⟩ => rfl
    | ⟨1, _⟩ => rfl
  unfold fn_argsort Host.sort2
  dsimp only
  rw [dif_pos (show 1 < S256x2048.rank by decide)]
  show iotaInDim S256x2048 32 1 ((ix2 r k : S256x2048.Idx).along (1 : Fin 2) (sortedFrom _ k)) = _
  have hb : (fun k₁ k₂ : Fin 2048 => comparator_f32_i32_d1 (F := Ideal)
      (Host.negf x ((ix2 r k : S256x2048.Idx).along (1 : Fin 2) k₁), iotaInDim S256x2048 32 1 ((ix2 r k : S256x2048.Idx).along (1 : Fin 2) k₁))
      (Host.negf x ((ix2 r k : S256x2048.Idx).along (1 : Fin 2) k₂), iotaInDim S256x2048 32 1 ((ix2 r k : S256x2048.Idx).along (1 : Fin 2) k₂)) == 1#1)
      = before x r := by
    funext k₁ k₂
    exact congrArg₂ (fun i i' : S256x2048.Idx => comparator_f32_i32_d1 (F := Ideal) (Host.negf x i, iotaInDim S256x2048 32 1 i) (Host.negf x i', iotaInDim S256x2048 32 1 i') == 1#1)
      (hal k₁) (hal k₂)
  rw [hal]
  exact congrArg (fun b => iotaInDim S256x2048 32 1 (ix2 r (sortedFrom b k))) hb

/-- The reference's term. -/
def topVals (x : FVec Ideal (Rows 2048) .f32) : FVec Ideal S256x8 .f32 :=
  fn_take_along_axis (F := Ideal) x (extractStridedSlice S256x8 ![0, 0] (fn_argsort (F := Ideal) (Host.negf x)) slices_S256x2048_S256x8_0_0)

/-- The reference's entry (r, j) is row `r` sorted from the greatest down, at place `j`. -/
theorem topVals_apply (x : FVec Ideal (Rows 2048) .f32) (r : Fin 256) (j : Fin 8) : topVals x (ix2 r j) = sorted x r ⟨j.val, by omega⟩ := by
  refine take_apply x _ (fun r j => place x r ⟨j.val, by omega⟩) (fun r j => ?_) r j
  rw [← argsort_apply]
  show fn_argsort (F := Ideal) (Host.negf x) _ = _
  congr 1
  funext a
  match a with
  | ⟨0, _⟩ => exact Fin.ext (by show 0 + r.val = r.val; omega)
  | ⟨1, _⟩ => exact Fin.ext (by show 0 + j.val = j.val; omega)

end Cert.TopK

end
-- ==== Proof.MaskValue.lean ====
/- Where the mask is set: the reference's list decreases strictly up to the entry, or the entry is -∞. -/
module

public import proofs.«01_k».proof.Proof.RefValue

@[expose] public section

noncomputable section

namespace Cert.TopK

open Cert.On_distinct Cert.On_distinct.Gen
open Idealize.ShloMosaic

/-- The columns of the strict-decrease mask: column 0 is set; column `i + 1` where column `i` is and step `i` decreases. -/
def prefixCol (d : Fin 7 → S256x1.Idx → BitVec 1) : ℕ → S256x1.Idx → BitVec 1
  | 0 => fun _ => 1#1
  | i + 1 => if h : i < 7 then andi (prefixCol d i) (d ⟨i, h⟩) else prefixCol d i

/-- Column `i + 1` is column `i` and the step after it. -/
theorem prefixCol_step (d : Fin 7 → S256x1.Idx → BitVec 1) (i : ℕ) (h : i < 7) : prefixCol d (i + 1) = andi (prefixCol d i) (d ⟨i, h⟩) := dif_pos h

/-- A set entry of column `j` has every step before it set. -/
theorem prefixCol_one (d : Fin 7 → S256x1.Idx → BitVec 1) (y : S256x1.Idx) : ∀ j, prefixCol d j y = 1#1 → ∀ i (hi : i < 7), i < j → d ⟨i, hi⟩ y = 1#1
  | 0, _, i, _, hij => absurd hij (Nat.not_lt_zero i)
  | j + 1, h, i, hi, hij => by
    by_cases hj : j < 7
    · rw [prefixCol_step d j hj] at h
      obtain ⟨h1, h2⟩ : prefixCol d j y = 1#1 ∧ d ⟨j, hj⟩ y = 1#1 := by
        have h' : IntOp.andi (prefixCol d j y) (d ⟨j, hj⟩ y) = 1#1 := h
        generalize prefixCol d j y = p at h' ⊢
        generalize d ⟨j, hj⟩ y = q at h' ⊢
        revert p q; decide
      rcases Nat.lt_succ_iff_lt_or_eq.1 hij with h' | rfl
      · exact prefixCol_one d y j h1 i hi h'
      · exact h2
    · exact prefixCol_one d y j (by rw [prefixCol, dif_neg hj] at h; exact h) i hi (by omega)

/-- Step `i` of the list: does entry `i + 1` lie below entry `i`? -/
def step (t : FVec Ideal S256x8 .f32) (i : Fin 7) : S256x1.Idx → BitVec 1 :=
  fun y => FloatOps.cmpf (F := Ideal) (φ := .f32) .olt (t (ix2 (y 0) ⟨i.val + 1, by omega⟩)) (t (ix2 (y 0) ⟨i.val, by omega⟩))

/-- Column `i` of the list's comparisons of neighbours is step `i`. -/
theorem slice_step (t : FVec Ideal S256x8 .f32) (i : ℕ) (hi : i < 7) (h : S256x7.Slices ![0, i] S256x1) :
    extractStridedSlice S256x1 ![0, i] (cmpf .olt (extractStridedSlice S256x7 ![0, 1] t slices_S256x8_S256x7_0_1)
      (extractStridedSlice S256x7 ![0, 0] t slices_S256x8_S256x7_0_0)) h = step t ⟨i, hi⟩ := by
  funext y
  have hy : (y 1).val = 0 := Nat.lt_one_iff.1 (y 1).isLt
  show FloatOps.cmpf (F := Ideal) (φ := .f32) .olt (t _) (t _) = FloatOps.cmpf (F := Ideal) (φ := .f32) .olt (t _) (t _)
  congr 2
  · funext a
    match a with
    | ⟨0, _⟩ => exact Fin.ext (by show 0 + (0 + (y 0).val) = (y 0).val; omega)
    | ⟨1, _⟩ => exact Fin.ext (by show 1 + (i + (y 1).val) = i + 1; omega)
  · funext a
    match a with
    | ⟨0, _⟩ => exact Fin.ext (by show 0 + (0 + (y 0).val) = (y 0).val; omega)
    | ⟨1, _⟩ => exact Fin.ext (by show 0 + (i + (y 1).val) = i; omega)

/-- Where the mask is set, the reference's list decreases strictly up to the entry, or the entry is -∞. -/
theorem mask_one (x : FVec Ideal (Rows 2048) .f32) (r : Fin 256) (j : Fin 8) (h : Cert.On_distinct.fn (F := Ideal) x (ix2 r j) = 1#1) :
    (∀ i (hi : i < j.val), topVals x (ix2 r ⟨i + 1, by omega⟩) < topVals x (ix2 r ⟨i, by omega⟩)) ∨ topVals x (ix2 r j) = ⊥ := by
  have e : Cert.On_distinct.fn (F := Ideal) x (ix2 r j)
      = IntOp.ori (prefixCol (step (topVals x)) j.val (ix2 r 0)) (FloatOps.cmpf (F := Ideal) (φ := .f32) .oeq (topVals x (ix2 r j)) (FloatOps.ofBits (F := Ideal) .f32 0xFF800000#32)) := by
    unfold Cert.On_distinct.fn fn_part1
    dsimp only
    rw [show fn_take_along_axis (F := Ideal) x (extractStridedSlice S256x8 ![0, 0] (fn_argsort (F := Ideal) (Host.negf x)) slices_S256x2048_S256x8_0_0) = topVals x from rfl]
    generalize topVals x = t
    rw [slice_step t 0 (by omega), slice_step t 1 (by omega), slice_step t 2 (by omega), slice_step t 3 (by omega), slice_step t 4 (by omega),
      slice_step t 5 (by omega), slice_step t 6 (by omega)]
    exact congrArg (fun b => IntOp.ori b (FloatOps.cmpf (F := Ideal) (φ := .f32) .oeq (t (ix2 r j)) (FloatOps.ofBits (F := Ideal) .f32 0xFF800000#32)))
      (columns_apply (fun n : Fin 8 => prefixCol (step t) n.val) _ r j)
  rw [e] at h
  have hor : ∀ p q : BitVec 1, IntOp.ori p q = 1#1 → p = 1#1 ∨ q = 1#1 := by decide
  rcases hor _ _ h with h | h
  · refine Or.inl fun i hi => ?_
    have := prefixCol_one _ _ _ h i (by omega) hi
    have hlt : Ideal.cmp .olt (topVals x (ix2 r ⟨i + 1, by omega⟩)) (topVals x (ix2 r ⟨i, by omega⟩)) = 1#1 := this
    by_contra hn
    simp [Ideal.cmp, hn] at hlt
  · refine Or.inr ?_
    rw [word_bot] at h
    have heq : Ideal.cmp .oeq (topVals x (ix2 r j)) ⊥ = 1#1 := h
    by_contra hn
    simp [Ideal.cmp, hn] at heq

end Cert.TopK

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_distinct
public import proofs.«01_k».proof.Proof.Run
public import proofs.«01_k».proof.Proof.KernelValue
public import proofs.«01_k».proof.Proof.MaskValue
public import Idealize.ShloMosaic.Adequacy
public import Idealize.ShloMosaic.Init

@[expose] public section

noncomputable section

namespace Cert.Proof

open Idealize.ShloMosaic Idealize.SL.Sem Cert.Kernel

/-- For any float values, from any memory: the kernel's run leaves its input untouched and every counter at zero. -/
theorem frame_any {F : FTy → Type} [FloatOps F] (m : (ℓ : Loc KernelIdeal.nD KernelIdeal.τ KernelIdeal.sig) → Buf (Elt F) ℓ)
    (ρ : Dev KernelIdeal.nD → PrngReg) :
    θ_run (KernelIdeal.defs (F := F)) (onTc (τ := KernelIdeal.τ) (KernelIdeal.main (F := F))) ⟨m, fun _ => 0, ρ⟩ fun r =>
      (∀ c : Dev KernelIdeal.nD, r.2.mem (c.tc.loc KernelIdeal.main_arg0) = m (c.tc.loc KernelIdeal.main_arg0)) ∧ r.2.sem = fun _ => 0 :=
  (θ_run KernelIdeal.defs _ _).mono (fun _ h => ⟨fun c => (h.1 c (0 : Fin 2)).trans (Cert.TopK.finalA_x m ρ c), h.2⟩)
    (Cert.TopK.run_main m ρ)

/-- The two printings of the kernel have the same table of kernel bodies. -/
theorem bodies_eq {F : FTy → Type} [FloatOps F] : Kernel.defs₀ (F := F) = KernelIdeal.defs₀ (F := F) := by
  unfold Kernel.defs₀ KernelIdeal.defs₀
  congr 1
  funext l a
  match l with
  | 0 => rfl
  | ⟨_ + 1, h⟩ => exact absurd h (Nat.not_lt.2 (Nat.le_add_left _ _))

/-- Hence they have the same table of definitions. -/
theorem tables_eq {F : FTy → Type} [FloatOps F] : Kernel.defs (F := F) = KernelIdeal.defs (F := F) := by
  show Pipeline.defs Kernel.pcfgs Kernel.defs₀ = Pipeline.defs Kernel.pcfgs KernelIdeal.defs₀
  rw [bodies_eq]

/-- On any memory the compiled kernel, at the bit-exact floats, ends with its input untouched and every counter at zero. -/
theorem frame_kernel : Cert.quiescent_Kernel := by
  intro m ρ _
  rw [tables_eq]
  exact frame_any (F := Bits) m ρ

/-- The same of the kernel read at the ideal floats. -/
theorem frame_kernelIdeal : Cert.quiescent_KernelIdeal := fun m ρ _ => frame_any (F := Ideal) m ρ

/-- The reference ends with its input untouched and, since it declares no semaphore, every counter at zero. -/
theorem frame_referenceIdeal : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The kernel's entry is the reference's wherever the mask is set: there either the sorted row decreases strictly up to
    the entry, and the `j`-th greatest distinct value stands at place `j`, or the reference's entry is -∞ and nothing
    greater is left for the kernel's. -/
theorem entry_eq (m : (ℓ : Loc KernelIdeal.nD KernelIdeal.τ KernelIdeal.sig) → Buf (Elt Ideal) ℓ) (ρ : Dev KernelIdeal.nD → PrngReg)
    (x : FVec Ideal (Cert.TopK.Rows 2048) .f32)
    (hx : ∀ c : Dev KernelIdeal.nD, m (c.tc.loc KernelIdeal.main_arg0)
      = Layout.blockN ⟨2, ![256, 1024]⟩ ⟨2, ![256, 2048]⟩ (Layout.meshBlock [2, 2, 2] ![[], [1]] c) x)
    (i : (⟨2, ![256, 8]⟩ : Shape).Idx) (hi : Cert.On_distinct.fn (F := Ideal) x i = 1#1) :
    Cert.TopK.outAt m ρ i = Cert.TopK.topVals x i := by
  obtain ⟨r, j, rfl⟩ : ∃ (r : Fin 256) (j : Fin 8), i = ix2 r j := ⟨_, _, ValueIdx.eq_ix2 i⟩
  have hF := Cert.TopK.sorted_covers x r
  have hF' : ∀ k, ∃ c, x (ix2 r c) = Cert.TopK.sorted x r k := fun k => ⟨_, rfl⟩
  have hs := Cert.TopK.sorted_antitone x r
  rw [Cert.TopK.outAt_apply m ρ x hx]
  rcases Cert.TopK.mask_one x r j hi with h | h
  · rw [Cert.TopK.topVals_apply]
    refine Cert.TopK.rank_eq_sorted hF hF' hs j.val (by omega) fun n hn => ?_
    have := h n hn
    rwa [Cert.TopK.topVals_apply, Cert.TopK.topVals_apply] at this
  · rw [h]
    rw [Cert.TopK.topVals_apply] at h
    exact le_bot_iff.mp ((Cert.TopK.rank_le_sorted hF hs j.val (by omega)).trans h.le)

/-- Under the mask, every device's result is the reference's. -/
theorem algebraic : Cert.algebraic_KernelIdeal_ReferenceIdeal_on_distinct := by
  intro m ρ m' ρ' _ hx
  refine ⟨Cert.TopK.topVals (m' (((0 : Dev Cert.ReferenceIdeal.nD).tc : Thread _ Cert.ReferenceIdeal.τ).loc Cert.ReferenceIdeal.main_arg0)), ?_, ?_⟩
  · refine (θ_run KernelIdeal.defs _ _).mono (fun r h c => ⟨fun i hi => ?_, (h.1 c (0 : Fin 2)).trans (Cert.TopK.finalA_x m ρ c)⟩) (Cert.TopK.run_main m ρ)
    have e : r.2.mem ((c.tc : Thread KernelIdeal.nD KernelIdeal.τ).loc KernelIdeal.main_v1) = Cert.TopK.outAt m ρ :=
      (h.1 c (1 : Fin 2)).trans (Cert.TopK.finalA_out m ρ c)
    rw [e]
    exact entry_eq m ρ _ hx i hi
  · refine (θ_run Cert.ReferenceIdeal.defs _ _).mono (fun r h => ⟨fun i _ => congrFun ((h 0).1.trans ?_) i, (h 0).2⟩) (Cert.ReferenceIdeal.Value.run (F := Ideal) m' ρ')
    rfl

/-- All the claims together. -/
theorem claim : Cert.Claim := ⟨Cert.Kernel.Gen.facts, Cert.KernelIdeal.Gen.facts, Cert.ReferenceIdeal.Gen.facts, Cert.On_distinct.Gen.facts,
  frame_kernel, frame_kernelIdeal, frame_referenceIdeal, trivial, algebraic⟩

end Cert.Proof

end
